-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S16 : Shape := ⟨1, ![16]⟩
abbrev S_ : Shape := ⟨0, ![]⟩
abbrev S1 : Shape := ⟨1, ![1]⟩
abbrev S3 : Shape := ⟨1, ![3]⟩
abbrev S2048x2048 : Shape := ⟨2, ![2048, 2048]⟩
abbrev S4x16x32x2048 : Shape := ⟨4, ![4, 16, 32, 2048]⟩
abbrev S4x15 : Shape := ⟨2, ![4, 15]⟩
abbrev S32x128 : Shape := ⟨2, ![32, 128]⟩
abbrev S32x2048 : Shape := ⟨2, ![32, 2048]⟩
abbrev S1x1x32x2048 : Shape := ⟨4, ![1, 1, 32, 2048]⟩
abbrev S1x1 : Shape := ⟨2, ![1, 1]⟩

abbrev nBuf : Space → Nat
  | .hbm => 37
  | .vmem => 4
  | .smem => 1
  | _ => 0

abbrev bufTy : (tb : Table) → Fin (tcTables nBuf tb) → BufTy
  | .hbm, ⟨0, _⟩ => ⟨S2048x128, .f32⟩
  | .hbm, ⟨1, _⟩ => ⟨S128x2048, .f32⟩
  | .hbm, ⟨2, _⟩ => ⟨S16, .i32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S1, .i32⟩
  | .hbm, ⟨34, _⟩ => ⟨S1, .i32⟩
  | .hbm, ⟨35, _⟩ => ⟨S3, .i32⟩
  | .hbm, ⟨36, _⟩ => ⟨S2048x2048, .f32⟩
  | .local _ .vmem, ⟨0, _⟩ => ⟨S2048x128, .f32⟩
  | .local _ .vmem, ⟨1, _⟩ => ⟨S128x2048, .f32⟩
  | .local _ .vmem, ⟨2, _⟩ => ⟨S2048x2048, .f32⟩
  | .local _ .vmem, ⟨3, _⟩ => ⟨S4x16x32x2048, .f32⟩
  | .local _ .smem, ⟨0, _⟩ => ⟨S3, .i32⟩
  | _, _ => ⟨S2048x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 244 → Bool
  | ⟨i, _⟩ => dmaSemScopedAt i

abbrev sig : RefSig :=
  (ofTc nBuf bufTy 1 244 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_v5 : Ref sig .tc := ⟨.hbm, 12, rfl⟩
abbrev main_c_5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_6 : Ref sig .tc := ⟨.hbm, 18, rfl⟩
abbrev main_v10 : Ref sig .tc := ⟨.hbm, 19, rfl⟩
abbrev main_c_7 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_8 : Ref sig .tc := ⟨.hbm, 25, rfl⟩
abbrev main_v15 : Ref sig .tc := ⟨.hbm, 26, rfl⟩
abbrev main_c_9 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (v0 : BitVec 32) (c0_i32_4 : BitVec 32) : Fin 2 → Nat :=
  let c32_i32 : BitVec 32 := 32#32
  let v14 : BitVec 32 := Scalar.muli v0 c32_i32
  let v15 : BitVec 32 := Scalar.addi c0_i32_4 v14
  let v16 : Index := Scalar.indexCast v15
  let c0_5 : Index := 0#32
  ![v16.toNat, 0]

def k0_off2 (v0 : BitVec 32) (c1024_i32 : BitVec 32) : Fin 2 → Nat :=
  let c16_i32 : BitVec 32 := 16#32
  let v3 : BitVec 32 := Scalar.subi c16_i32 v0
  let c16_i32_0 : BitVec 32 := 16#32
  let c0_i32 : BitVec 32 := 0#32
  let v4 : BitVec 1 := Scalar.cmpi .eq c16_i32_0 c0_i32
  let c1_i32 : BitVec 32 := 1#32
  let v5 : BitVec 32 := Scalar.select v4 c1_i32 c16_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c32_i32_21 : BitVec 32 := 32#32
  let v36 : BitVec 32 := Scalar.muli v13 c32_i32_21
  let v37 : BitVec 32 := Scalar.addi c1024_i32 v36
  let v38 : Index := Scalar.indexCast v37
  let c0_22 : Index := 0#32
  ![v38.toNat, 0]
def k0_dev1 (v1 : BitVec 32) : Nat :=
  let c0_i32_40 : BitVec 32 := 0#32
  let c1_i32_39 : BitVec 32 := 1#32
  let v59 : BitVec 32 := Scalar.muli v1 c1_i32_39
  let v60 : BitVec 32 := Scalar.addi c0_i32_40 v59
  v60.toNat

def k0_dev2 (v2 : BitVec 32) : Nat :=
  let c0_i32_43 : BitVec 32 := 0#32
  let c1_i32_42 : BitVec 32 := 1#32
  let v61 : BitVec 32 := Scalar.muli v2 c1_i32_42
  let v62 : BitVec 32 := Scalar.addi c0_i32_43 v61
  v62.toNat

def k0_dev3 (v1 : BitVec 32) : Nat :=
  let c0_i32_53 : BitVec 32 := 0#32
  let c1_i32_52 : BitVec 32 := 1#32
  let v63 : BitVec 32 := Scalar.muli v1 c1_i32_52
  let v64 : BitVec 32 := Scalar.addi c0_i32_53 v63
  v64.toNat
def k0_dev4 (v2 : BitVec 32) : Nat :=
  let c0_i32_67 : BitVec 32 := 0#32
  let c1_i32_66 : BitVec 32 := 1#32
  let v73 : BitVec 32 := Scalar.muli v2 c1_i32_66
  let v74 : BitVec 32 := Scalar.addi c0_i32_67 v73
  v74.toNat
def k0_dev5 (v1 : BitVec 32) : Nat :=
  let c0_i32_81 : BitVec 32 := 0#32
  let c1_i32_80 : BitVec 32 := 1#32
  let v83 : BitVec 32 := Scalar.muli v1 c1_i32_80
  let v84 : BitVec 32 := Scalar.addi c0_i32_81 v83
  v84.toNat
def k0_dev6 (v2 : BitVec 32) : Nat :=
  let c0_i32_94 : BitVec 32 := 0#32
  let c1_i32_93 : BitVec 32 := 1#32
  let v93 : BitVec 32 := Scalar.muli v2 c1_i32_93
  let v94 : BitVec 32 := Scalar.addi c0_i32_94 v93
  v94.toNat
def k0_off3 (v0 : BitVec 32) (c0_i32_108 : BitVec 32) (c0_i32_99 : BitVec 32) : Fin 2 → Nat :=
  let v103 : BitVec 32 := Scalar.subi v0 c0_i32_99
  let c1_i32_100 : BitVec 32 := 1#32
  let v104 : BitVec 32 := Scalar.subi v103 c1_i32_100
  let c16_i32_101 : BitVec 32 := 16#32
  let c0_i32_102 : BitVec 32 := 0#32
  let v105 : BitVec 1 := Scalar.cmpi .eq c16_i32_101 c0_i32_102
  let c1_i32_103 : BitVec 32 := 1#32
  let v106 : BitVec 32 := Scalar.select v105 c1_i32_103 c16_i32_101
  let v107 : BitVec 32 := Scalar.remsi v104 v106
  let c0_i32_105 : BitVec 32 := 0#32
  let v109 : BitVec 1 := Scalar.cmpi .slt v107 c0_i32_105
  let c0_i32_106 : BitVec 32 := 0#32
  let v110 : BitVec 1 := Scalar.cmpi .slt v106 c0_i32_106
  let v111 : BitVec 1 := Scalar.xori v109 v110
  let c0_i32_104 : BitVec 32 := 0#32
  let v108 : BitVec 1 := Scalar.cmpi .ne v107 c0_i32_104
  let v112 : BitVec 1 := Scalar.andi v111 v108
  let v113 : BitVec 32 := Scalar.addi v107 v106
  let v114 : BitVec 32 := Scalar.select v112 v113 v107
  let c32_i32_107 : BitVec 32 := 32#32
  let v115 : BitVec 32 := Scalar.muli v114 c32_i32_107
  let v116 : BitVec 32 := Scalar.addi c0_i32_108 v115
  let v117 : Index := Scalar.indexCast v116
  let c0_109 : Index := 0#32
  ![v117.toNat, 0]
def k0_off4 (v0 : BitVec 32) (c1024_i32_122 : BitVec 32) (c0_i32_113 : BitVec 32) : Fin 2 → Nat :=
  let c16_i32 : BitVec 32 := 16#32
  let v3 : BitVec 32 := Scalar.subi c16_i32 v0
  let c16_i32_0 : BitVec 32 := 16#32
  let c0_i32 : BitVec 32 := 0#32
  let v4 : BitVec 1 := Scalar.cmpi .eq c16_i32_0 c0_i32
  let c1_i32 : BitVec 32 := 1#32
  let v5 : BitVec 32 := Scalar.select v4 c1_i32 c16_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let v123 : BitVec 32 := Scalar.subi v13 c0_i32_113
  let c1_i32_114 : BitVec 32 := 1#32
  let v124 : BitVec 32 := Scalar.subi v123 c1_i32_114
  let c16_i32_115 : BitVec 32 := 16#32
  let c0_i32_116 : BitVec 32 := 0#32
  let v125 : BitVec 1 := Scalar.cmpi .eq c16_i32_115 c0_i32_116
  let c1_i32_117 : BitVec 32 := 1#32
  let v126 : BitVec 32 := Scalar.select v125 c1_i32_117 c16_i32_115
  let v127 : BitVec 32 := Scalar.remsi v124 v126
  let c0_i32_119 : BitVec 32 := 0#32
  let v129 : BitVec 1 := Scalar.cmpi .slt v127 c0_i32_119
  let c0_i32_120 : BitVec 32 := 0#32
  let v130 : BitVec 1 := Scalar.cmpi .slt v126 c0_i32_120
  let v131 : BitVec 1 := Scalar.xori v129 v130
  let c0_i32_118 : BitVec 32 := 0#32
  let v128 : BitVec 1 := Scalar.cmpi .ne v127 c0_i32_118
  let v132 : BitVec 1 := Scalar.andi v131 v128
  let v133 : BitVec 32 := Scalar.addi v127 v126
  let v134 : BitVec 32 := Scalar.select v132 v133 v127
  let c32_i32_121 : BitVec 32 := 32#32
  let v135 : BitVec 32 := Scalar.muli v134 c32_i32_121
  let v136 : BitVec 32 := Scalar.addi c1024_i32_122 v135
  let v137 : Index := Scalar.indexCast v136
  let c0_123 : Index := 0#32
  ![v137.toNat, 0]
def k0_dev7 (v1 : BitVec 32) : Nat :=
  let c0_i32_158 : BitVec 32 := 0#32
  let c1_i32_157 : BitVec 32 := 1#32
  let v157 : BitVec 32 := Scalar.muli v1 c1_i32_157
  let v158 : BitVec 32 := Scalar.addi c0_i32_158 v157
  v158.toNat
def k0_dev8 (v2 : BitVec 32) : Nat :=
  let c0_i32_194 : BitVec 32 := 0#32
  let c1_i32_193 : BitVec 32 := 1#32
  let v181 : BitVec 32 := Scalar.muli v2 c1_i32_193
  let v182 : BitVec 32 := Scalar.addi c0_i32_194 v181
  v182.toNat
def k0_dev9 (v1 : BitVec 32) : Nat :=
  let c0_i32_280 : BitVec 32 := 0#32
  let c1_i32_279 : BitVec 32 := 1#32
  let v259 : BitVec 32 := Scalar.muli v1 c1_i32_279
  let v260 : BitVec 32 := Scalar.addi c0_i32_280 v259
  v260.toNat
def k0_dev10 (v2 : BitVec 32) : Nat :=
  let c0_i32_294 : BitVec 32 := 0#32
  let c1_i32_293 : BitVec 32 := 1#32
  let v269 : BitVec 32 := Scalar.muli v2 c1_i32_293
  let v270 : BitVec 32 := Scalar.addi c0_i32_294 v269
  v270.toNat
def k0_dev11 (v1 : BitVec 32) : Nat :=
  let c0_i32_358 : BitVec 32 := 0#32
  let c1_i32_357 : BitVec 32 := 1#32
  let v333 : BitVec 32 := Scalar.muli v1 c1_i32_357
  let v334 : BitVec 32 := Scalar.addi c0_i32_358 v333
  v334.toNat
def k0_dev12 (v2 : BitVec 32) : Nat :=
  let c0_i32_394 : BitVec 32 := 0#32
  let c1_i32_393 : BitVec 32 := 1#32
  let v357 : BitVec 32 := Scalar.muli v2 c1_i32_393
  let v358 : BitVec 32 := Scalar.addi c0_i32_394 v357
  v358.toNat
def k0_dev13 (v1 : BitVec 32) : Nat :=
  let c0_i32_480 : BitVec 32 := 0#32
  let c1_i32_479 : BitVec 32 := 1#32
  let v435 : BitVec 32 := Scalar.muli v1 c1_i32_479
  let v436 : BitVec 32 := Scalar.addi c0_i32_480 v435
  v436.toNat
def k0_dev14 (v2 : BitVec 32) : Nat :=
  let c0_i32_494 : BitVec 32 := 0#32
  let c1_i32_493 : BitVec 32 := 1#32
  let v445 : BitVec 32 := Scalar.muli v2 c1_i32_493
  let v446 : BitVec 32 := Scalar.addi c0_i32_494 v445
  v446.toNat
def k0_dev15 (v1 : BitVec 32) : Nat :=
  let c0_i32_557 : BitVec 32 := 0#32
  let c1_i32_556 : BitVec 32 := 1#32
  let v509 : BitVec 32 := Scalar.muli v1 c1_i32_556
  let v510 : BitVec 32 := Scalar.addi c0_i32_557 v509
  v510.toNat
def k0_dev16 (v2 : BitVec 32) : Nat :=
  let c0_i32_593 : BitVec 32 := 0#32
  let c1_i32_592 : BitVec 32 := 1#32
  let v533 : BitVec 32 := Scalar.muli v2 c1_i32_592
  let v534 : BitVec 32 := Scalar.addi c0_i32_593 v533
  v534.toNat
def k0_dev17 (v1 : BitVec 32) : Nat :=
  let c0_i32_679 : BitVec 32 := 0#32
  let c1_i32_678 : BitVec 32 := 1#32
  let v611 : BitVec 32 := Scalar.muli v1 c1_i32_678
  let v612 : BitVec 32 := Scalar.addi c0_i32_679 v611
  v612.toNat
def k0_dev18 (v2 : BitVec 32) : Nat :=
  let c0_i32_693 : BitVec 32 := 0#32
  let c1_i32_692 : BitVec 32 := 1#32
  let v621 : BitVec 32 := Scalar.muli v2 c1_i32_692
  let v622 : BitVec 32 := Scalar.addi c0_i32_693 v621
  v622.toNat
def k0_dev19 (v1 : BitVec 32) : Nat :=
  let c0_i32_755 : BitVec 32 := 0#32
  let c1_i32_754 : BitVec 32 := 1#32
  let v685 : BitVec 32 := Scalar.muli v1 c1_i32_754
  let v686 : BitVec 32 := Scalar.addi c0_i32_755 v685
  v686.toNat
def k0_dev20 (v2 : BitVec 32) : Nat :=
  let c0_i32_791 : BitVec 32 := 0#32
  let c1_i32_790 : BitVec 32 := 1#32
  let v709 : BitVec 32 := Scalar.muli v2 c1_i32_790
  let v710 : BitVec 32 := Scalar.addi c0_i32_791 v709
  v710.toNat
def k0_dev21 (v1 : BitVec 32) : Nat :=
  let c0_i32_877 : BitVec 32 := 0#32
  let c1_i32_876 : BitVec 32 := 1#32
  let v787 : BitVec 32 := Scalar.muli v1 c1_i32_876
  let v788 : BitVec 32 := Scalar.addi c0_i32_877 v787
  v788.toNat
def k0_dev22 (v2 : BitVec 32) : Nat :=
  let c0_i32_891 : BitVec 32 := 0#32
  let c1_i32_890 : BitVec 32 := 1#32
  let v797 : BitVec 32 := Scalar.muli v2 c1_i32_890
  let v798 : BitVec 32 := Scalar.addi c0_i32_891 v797
  v798.toNat
def k0_dev23 (v1 : BitVec 32) : Nat :=
  let c0_i32_953 : BitVec 32 := 0#32
  let c1_i32_952 : BitVec 32 := 1#32
  let v861 : BitVec 32 := Scalar.muli v1 c1_i32_952
  let v862 : BitVec 32 := Scalar.addi c0_i32_953 v861
  v862.toNat
def k0_dev24 (v2 : BitVec 32) : Nat :=
  let c0_i32_989 : BitVec 32 := 0#32
  let c1_i32_988 : BitVec 32 := 1#32
  let v885 : BitVec 32 := Scalar.muli v2 c1_i32_988
  let v886 : BitVec 32 := Scalar.addi c0_i32_989 v885
  v886.toNat
def k0_dev25 (v1 : BitVec 32) : Nat :=
  let c0_i32_1075 : BitVec 32 := 0#32
  let c1_i32_1074 : BitVec 32 := 1#32
  let v963 : BitVec 32 := Scalar.muli v1 c1_i32_1074
  let v964 : BitVec 32 := Scalar.addi c0_i32_1075 v963
  v964.toNat
def k0_dev26 (v2 : BitVec 32) : Nat :=
  let c0_i32_1089 : BitVec 32 := 0#32
  let c1_i32_1088 : BitVec 32 := 1#32
  let v973 : BitVec 32 := Scalar.muli v2 c1_i32_1088
  let v974 : BitVec 32 := Scalar.addi c0_i32_1089 v973
  v974.toNat
def k0_dev27 (v1 : BitVec 32) : Nat :=
  let c0_i32_1151 : BitVec 32 := 0#32
  let c1_i32_1150 : BitVec 32 := 1#32
  let v1037 : BitVec 32 := Scalar.muli v1 c1_i32_1150
  let v1038 : BitVec 32 := Scalar.addi c0_i32_1151 v1037
  v1038.toNat
def k0_dev28 (v2 : BitVec 32) : Nat :=
  let c0_i32_1187 : BitVec 32 := 0#32
  let c1_i32_1186 : BitVec 32 := 1#32
  let v1061 : BitVec 32 := Scalar.muli v2 c1_i32_1186
  let v1062 : BitVec 32 := Scalar.addi c0_i32_1187 v1061
  v1062.toNat
def k0_dev29 (v1 : BitVec 32) : Nat :=
  let c0_i32_1273 : BitVec 32 := 0#32
  let c1_i32_1272 : BitVec 32 := 1#32
  let v1139 : BitVec 32 := Scalar.muli v1 c1_i32_1272
  let v1140 : BitVec 32 := Scalar.addi c0_i32_1273 v1139
  v1140.toNat
def k0_dev30 (v2 : BitVec 32) : Nat :=
  let c0_i32_1287 : BitVec 32 := 0#32
  let c1_i32_1286 : BitVec 32 := 1#32
  let v1149 : BitVec 32 := Scalar.muli v2 c1_i32_1286
  let v1150 : BitVec 32 := Scalar.addi c0_i32_1287 v1149
  v1150.toNat
def k0_dev31 (v1 : BitVec 32) : Nat :=
  let c0_i32_1349 : BitVec 32 := 0#32
  let c1_i32_1348 : BitVec 32 := 1#32
  let v1213 : BitVec 32 := Scalar.muli v1 c1_i32_1348
  let v1214 : BitVec 32 := Scalar.addi c0_i32_1349 v1213
  v1214.toNat
def k0_dev32 (v2 : BitVec 32) : Nat :=
  let c0_i32_1385 : BitVec 32 := 0#32
  let c1_i32_1384 : BitVec 32 := 1#32
  let v1237 : BitVec 32 := Scalar.muli v2 c1_i32_1384
  let v1238 : BitVec 32 := Scalar.addi c0_i32_1385 v1237
  v1238.toNat
def k0_dev33 (v1 : BitVec 32) : Nat :=
  let c0_i32_1471 : BitVec 32 := 0#32
  let c1_i32_1470 : BitVec 32 := 1#32
  let v1315 : BitVec 32 := Scalar.muli v1 c1_i32_1470
  let v1316 : BitVec 32 := Scalar.addi c0_i32_1471 v1315
  v1316.toNat
def k0_dev34 (v2 : BitVec 32) : Nat :=
  let c0_i32_1485 : BitVec 32 := 0#32
  let c1_i32_1484 : BitVec 32 := 1#32
  let v1325 : BitVec 32 := Scalar.muli v2 c1_i32_1484
  let v1326 : BitVec 32 := Scalar.addi c0_i32_1485 v1325
  v1326.toNat
def k0_dev35 (v1 : BitVec 32) : Nat :=
  let c0_i32_1547 : BitVec 32 := 0#32
  let c1_i32_1546 : BitVec 32 := 1#32
  let v1389 : BitVec 32 := Scalar.muli v1 c1_i32_1546
  let v1390 : BitVec 32 := Scalar.addi c0_i32_1547 v1389
  v1390.toNat
def k0_dev36 (v2 : BitVec 32) : Nat :=
  let c0_i32_1583 : BitVec 32 := 0#32
  let c1_i32_1582 : BitVec 32 := 1#32
  let v1413 : BitVec 32 := Scalar.muli v2 c1_i32_1582
  let v1414 : BitVec 32 := Scalar.addi c0_i32_1583 v1413
  v1414.toNat
def k0_dev37 (v1 : BitVec 32) : Nat :=
  let c0_i32_1669 : BitVec 32 := 0#32
  let c1_i32_1668 : BitVec 32 := 1#32
  let v1491 : BitVec 32 := Scalar.muli v1 c1_i32_1668
  let v1492 : BitVec 32 := Scalar.addi c0_i32_1669 v1491
  v1492.toNat
def k0_dev38 (v2 : BitVec 32) : Nat :=
  let c0_i32_1683 : BitVec 32 := 0#32
  let c1_i32_1682 : BitVec 32 := 1#32
  let v1501 : BitVec 32 := Scalar.muli v2 c1_i32_1682
  let v1502 : BitVec 32 := Scalar.addi c0_i32_1683 v1501
  v1502.toNat
def k0_dev39 (v1 : BitVec 32) : Nat :=
  let c0_i32_1745 : BitVec 32 := 0#32
  let c1_i32_1744 : BitVec 32 := 1#32
  let v1565 : BitVec 32 := Scalar.muli v1 c1_i32_1744
  let v1566 : BitVec 32 := Scalar.addi c0_i32_1745 v1565
  v1566.toNat
def k0_dev40 (v2 : BitVec 32) : Nat :=
  let c0_i32_1781 : BitVec 32 := 0#32
  let c1_i32_1780 : BitVec 32 := 1#32
  let v1589 : BitVec 32 := Scalar.muli v2 c1_i32_1780
  let v1590 : BitVec 32 := Scalar.addi c0_i32_1781 v1589
  v1590.toNat
def k0_dev41 (v1 : BitVec 32) : Nat :=
  let c0_i32_1867 : BitVec 32 := 0#32
  let c1_i32_1866 : BitVec 32 := 1#32
  let v1667 : BitVec 32 := Scalar.muli v1 c1_i32_1866
  let v1668 : BitVec 32 := Scalar.addi c0_i32_1867 v1667
  v1668.toNat
def k0_dev42 (v2 : BitVec 32) : Nat :=
  let c0_i32_1881 : BitVec 32 := 0#32
  let c1_i32_1880 : BitVec 32 := 1#32
  let v1677 : BitVec 32 := Scalar.muli v2 c1_i32_1880
  let v1678 : BitVec 32 := Scalar.addi c0_i32_1881 v1677
  v1678.toNat
def k0_dev43 (v1 : BitVec 32) : Nat :=
  let c0_i32_1943 : BitVec 32 := 0#32
  let c1_i32_1942 : BitVec 32 := 1#32
  let v1741 : BitVec 32 := Scalar.muli v1 c1_i32_1942
  let v1742 : BitVec 32 := Scalar.addi c0_i32_1943 v1741
  v1742.toNat
def k0_dev44 (v2 : BitVec 32) : Nat :=
  let c0_i32_1979 : BitVec 32 := 0#32
  let c1_i32_1978 : BitVec 32 := 1#32
  let v1765 : BitVec 32 := Scalar.muli v2 c1_i32_1978
  let v1766 : BitVec 32 := Scalar.addi c0_i32_1979 v1765
  v1766.toNat
def k0_dev45 (v1 : BitVec 32) : Nat :=
  let c0_i32_2065 : BitVec 32 := 0#32
  let c1_i32_2064 : BitVec 32 := 1#32
  let v1843 : BitVec 32 := Scalar.muli v1 c1_i32_2064
  let v1844 : BitVec 32 := Scalar.addi c0_i32_2065 v1843
  v1844.toNat
def k0_dev46 (v2 : BitVec 32) : Nat :=
  let c0_i32_2079 : BitVec 32 := 0#32
  let c1_i32_2078 : BitVec 32 := 1#32
  let v1853 : BitVec 32 := Scalar.muli v2 c1_i32_2078
  let v1854 : BitVec 32 := Scalar.addi c0_i32_2079 v1853
  v1854.toNat
def k0_dev47 (v1 : BitVec 32) : Nat :=
  let c0_i32_2141 : BitVec 32 := 0#32
  let c1_i32_2140 : BitVec 32 := 1#32
  let v1917 : BitVec 32 := Scalar.muli v1 c1_i32_2140
  let v1918 : BitVec 32 := Scalar.addi c0_i32_2141 v1917
  v1918.toNat
def k0_dev48 (v2 : BitVec 32) : Nat :=
  let c0_i32_2177 : BitVec 32 := 0#32
  let c1_i32_2176 : BitVec 32 := 1#32
  let v1941 : BitVec 32 := Scalar.muli v2 c1_i32_2176
  let v1942 : BitVec 32 := Scalar.addi c0_i32_2177 v1941
  v1942.toNat
def k0_dev49 (v1 : BitVec 32) : Nat :=
  let c0_i32_2263 : BitVec 32 := 0#32
  let c1_i32_2262 : BitVec 32 := 1#32
  let v2019 : BitVec 32 := Scalar.muli v1 c1_i32_2262
  let v2020 : BitVec 32 := Scalar.addi c0_i32_2263 v2019
  v2020.toNat
def k0_dev50 (v2 : BitVec 32) : Nat :=
  let c0_i32_2277 : BitVec 32 := 0#32
  let c1_i32_2276 : BitVec 32 := 1#32
  let v2029 : BitVec 32 := Scalar.muli v2 c1_i32_2276
  let v2030 : BitVec 32 := Scalar.addi c0_i32_2277 v2029
  v2030.toNat
def k0_dev51 (v1 : BitVec 32) : Nat :=
  let c0_i32_2339 : BitVec 32 := 0#32
  let c1_i32_2338 : BitVec 32 := 1#32
  let v2093 : BitVec 32 := Scalar.muli v1 c1_i32_2338
  let v2094 : BitVec 32 := Scalar.addi c0_i32_2339 v2093
  v2094.toNat
def k0_dev52 (v2 : BitVec 32) : Nat :=
  let c0_i32_2375 : BitVec 32 := 0#32
  let c1_i32_2374 : BitVec 32 := 1#32
  let v2117 : BitVec 32 := Scalar.muli v2 c1_i32_2374
  let v2118 : BitVec 32 := Scalar.addi c0_i32_2375 v2117
  v2118.toNat
def k0_dev53 (v1 : BitVec 32) : Nat :=
  let c0_i32_2461 : BitVec 32 := 0#32
  let c1_i32_2460 : BitVec 32 := 1#32
  let v2195 : BitVec 32 := Scalar.muli v1 c1_i32_2460
  let v2196 : BitVec 32 := Scalar.addi c0_i32_2461 v2195
  v2196.toNat
def k0_dev54 (v2 : BitVec 32) : Nat :=
  let c0_i32_2475 : BitVec 32 := 0#32
  let c1_i32_2474 : BitVec 32 := 1#32
  let v2205 : BitVec 32 := Scalar.muli v2 c1_i32_2474
  let v2206 : BitVec 32 := Scalar.addi c0_i32_2475 v2205
  v2206.toNat
def k0_dev55 (v1 : BitVec 32) : Nat :=
  let c0_i32_2537 : BitVec 32 := 0#32
  let c1_i32_2536 : BitVec 32 := 1#32
  let v2269 : BitVec 32 := Scalar.muli v1 c1_i32_2536
  let v2270 : BitVec 32 := Scalar.addi c0_i32_2537 v2269
  v2270.toNat
def k0_dev56 (v2 : BitVec 32) : Nat :=
  let c0_i32_2573 : BitVec 32 := 0#32
  let c1_i32_2572 : BitVec 32 := 1#32
  let v2293 : BitVec 32 := Scalar.muli v2 c1_i32_2572
  let v2294 : BitVec 32 := Scalar.addi c0_i32_2573 v2293
  v2294.toNat
def k0_dev57 (v1 : BitVec 32) : Nat :=
  let c0_i32_2659 : BitVec 32 := 0#32
  let c1_i32_2658 : BitVec 32 := 1#32
  let v2371 : BitVec 32 := Scalar.muli v1 c1_i32_2658
  let v2372 : BitVec 32 := Scalar.addi c0_i32_2659 v2371
  v2372.toNat
def k0_dev58 (v2 : BitVec 32) : Nat :=
  let c0_i32_2673 : BitVec 32 := 0#32
  let c1_i32_2672 : BitVec 32 := 1#32
  let v2381 : BitVec 32 := Scalar.muli v2 c1_i32_2672
  let v2382 : BitVec 32 := Scalar.addi c0_i32_2673 v2381
  v2382.toNat
def k0_dev59 (v1 : BitVec 32) : Nat :=
  let c0_i32_2735 : BitVec 32 := 0#32
  let c1_i32_2734 : BitVec 32 := 1#32
  let v2445 : BitVec 32 := Scalar.muli v1 c1_i32_2734
  let v2446 : BitVec 32 := Scalar.addi c0_i32_2735 v2445
  v2446.toNat
def k0_dev60 (v2 : BitVec 32) : Nat :=
  let c0_i32_2771 : BitVec 32 := 0#32
  let c1_i32_2770 : BitVec 32 := 1#32
  let v2469 : BitVec 32 := Scalar.muli v2 c1_i32_2770
  let v2470 : BitVec 32 := Scalar.addi c0_i32_2771 v2469
  v2470.toNat
def k0_dev61 (v1 : BitVec 32) : Nat :=
  let c0_i32_2857 : BitVec 32 := 0#32
  let c1_i32_2856 : BitVec 32 := 1#32
  let v2547 : BitVec 32 := Scalar.muli v1 c1_i32_2856
  let v2548 : BitVec 32 := Scalar.addi c0_i32_2857 v2547
  v2548.toNat
def k0_dev62 (v2 : BitVec 32) : Nat :=
  let c0_i32_2871 : BitVec 32 := 0#32
  let c1_i32_2870 : BitVec 32 := 1#32
  let v2557 : BitVec 32 := Scalar.muli v2 c1_i32_2870
  let v2558 : BitVec 32 := Scalar.addi c0_i32_2871 v2557
  v2558.toNat
def k0_off5 (v0 : BitVec 32) (c0_i32_2938 : BitVec 32) : Fin 2 → Nat :=
  let c1_i32_2925 : BitVec 32 := 1#32
  let v2621 : BitVec 32 := Scalar.addi v0 c1_i32_2925
  let c16_i32_2926 : BitVec 32 := 16#32
  let c0_i32_2927 : BitVec 32 := 0#32
  let v2622 : BitVec 1 := Scalar.cmpi .eq c16_i32_2926 c0_i32_2927
  let c1_i32_2928 : BitVec 32 := 1#32
  let v2623 : BitVec 32 := Scalar.select v2622 c1_i32_2928 c16_i32_2926
  let v2624 : BitVec 32 := Scalar.remsi v2621 v2623
  let c0_i32_2930 : BitVec 32 := 0#32
  let v2626 : BitVec 1 := Scalar.cmpi .slt v2624 c0_i32_2930
  let c0_i32_2931 : BitVec 32 := 0#32
  let v2627 : BitVec 1 := Scalar.cmpi .slt v2623 c0_i32_2931
  let v2628 : BitVec 1 := Scalar.xori v2626 v2627
  let c0_i32_2929 : BitVec 32 := 0#32
  let v2625 : BitVec 1 := Scalar.cmpi .ne v2624 c0_i32_2929
  let v2629 : BitVec 1 := Scalar.andi v2628 v2625
  let v2630 : BitVec 32 := Scalar.addi v2624 v2623
  let v2631 : BitVec 32 := Scalar.select v2629 v2630 v2624
  let c32_i32_2937 : BitVec 32 := 32#32
  let v2636 : BitVec 32 := Scalar.muli v2631 c32_i32_2937
  let v2637 : BitVec 32 := Scalar.addi c0_i32_2938 v2636
  let v2638 : Index := Scalar.indexCast v2637
  let c0_2939 : Index := 0#32
  ![v2638.toNat, 0]
def k0_off6 (v0 : BitVec 32) (c0_i32_2949 : BitVec 32) (c0_i32_2941 : BitVec 32) : Fin 2 → Nat :=
  let c1_i32_2940 : BitVec 32 := 1#32
  let v2640 : BitVec 32 := Scalar.addi v0 c1_i32_2940
  let v2641 : BitVec 32 := Scalar.subi v2640 c0_i32_2941
  let c16_i32_2942 : BitVec 32 := 16#32
  let c0_i32_2943 : BitVec 32 := 0#32
  let v2642 : BitVec 1 := Scalar.cmpi .eq c16_i32_2942 c0_i32_2943
  let c1_i32_2944 : BitVec 32 := 1#32
  let v2643 : BitVec 32 := Scalar.select v2642 c1_i32_2944 c16_i32_2942
  let v2644 : BitVec 32 := Scalar.remsi v2641 v2643
  let c0_i32_2946 : BitVec 32 := 0#32
  let v2646 : BitVec 1 := Scalar.cmpi .slt v2644 c0_i32_2946
  let c0_i32_2947 : BitVec 32 := 0#32
  let v2647 : BitVec 1 := Scalar.cmpi .slt v2643 c0_i32_2947
  let v2648 : BitVec 1 := Scalar.xori v2646 v2647
  let c0_i32_2945 : BitVec 32 := 0#32
  let v2645 : BitVec 1 := Scalar.cmpi .ne v2644 c0_i32_2945
  let v2649 : BitVec 1 := Scalar.andi v2648 v2645
  let v2650 : BitVec 32 := Scalar.addi v2644 v2643
  let v2651 : BitVec 32 := Scalar.select v2649 v2650 v2644
  let c32_i32_2948 : BitVec 32 := 32#32
  let v2652 : BitVec 32 := Scalar.muli v2651 c32_i32_2948
  let v2653 : BitVec 32 := Scalar.addi c0_i32_2949 v2652
  let c0_i32_2956 : BitVec 32 := 0#32
  ![v2653.toNat, 0]
def k0_dev63 (v1 : BitVec 32) : Nat :=
  let c0_i32_2955 : BitVec 32 := 0#32
  let c1_i32_2954 : BitVec 32 := 1#32
  let v2654 : BitVec 32 := Scalar.muli v1 c1_i32_2954
  let v2655 : BitVec 32 := Scalar.addi c0_i32_2955 v2654
  v2655.toNat
def k0_off7 (v0 : BitVec 32) (c1024_i32_2993 : BitVec 32) : Fin 2 → Nat :=
  let c16_i32 : BitVec 32 := 16#32
  let v3 : BitVec 32 := Scalar.subi c16_i32 v0
  let c16_i32_0 : BitVec 32 := 16#32
  let c0_i32 : BitVec 32 := 0#32
  let v4 : BitVec 1 := Scalar.cmpi .eq c16_i32_0 c0_i32
  let c1_i32 : BitVec 32 := 1#32
  let v5 : BitVec 32 := Scalar.select v4 c1_i32 c16_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c1_i32_2980 : BitVec 32 := 1#32
  let v2676 : BitVec 32 := Scalar.addi v13 c1_i32_2980
  let c16_i32_2981 : BitVec 32 := 16#32
  let c0_i32_2982 : BitVec 32 := 0#32
  let v2677 : BitVec 1 := Scalar.cmpi .eq c16_i32_2981 c0_i32_2982
  let c1_i32_2983 : BitVec 32 := 1#32
  let v2678 : BitVec 32 := Scalar.select v2677 c1_i32_2983 c16_i32_2981
  let v2679 : BitVec 32 := Scalar.remsi v2676 v2678
  let c0_i32_2985 : BitVec 32 := 0#32
  let v2681 : BitVec 1 := Scalar.cmpi .slt v2679 c0_i32_2985
  let c0_i32_2986 : BitVec 32 := 0#32
  let v2682 : BitVec 1 := Scalar.cmpi .slt v2678 c0_i32_2986
  let v2683 : BitVec 1 := Scalar.xori v2681 v2682
  let c0_i32_2984 : BitVec 32 := 0#32
  let v2680 : BitVec 1 := Scalar.cmpi .ne v2679 c0_i32_2984
  let v2684 : BitVec 1 := Scalar.andi v2683 v2680
  let v2685 : BitVec 32 := Scalar.addi v2679 v2678
  let v2686 : BitVec 32 := Scalar.select v2684 v2685 v2679
  let c32_i32_2992 : BitVec 32 := 32#32
  let v2691 : BitVec 32 := Scalar.muli v2686 c32_i32_2992
  let v2692 : BitVec 32 := Scalar.addi c1024_i32_2993 v2691
  let v2693 : Index := Scalar.indexCast v2692
  let c0_2994 : Index := 0#32
  ![v2693.toNat, 0]
def k0_off8 (v0 : BitVec 32) (c1024_i32_3004 : BitVec 32) (c0_i32_2996 : BitVec 32) : Fin 2 → Nat :=
  let c16_i32 : BitVec 32 := 16#32
  let v3 : BitVec 32 := Scalar.subi c16_i32 v0
  let c16_i32_0 : BitVec 32 := 16#32
  let c0_i32 : BitVec 32 := 0#32
  let v4 : BitVec 1 := Scalar.cmpi .eq c16_i32_0 c0_i32
  let c1_i32 : BitVec 32 := 1#32
  let v5 : BitVec 32 := Scalar.select v4 c1_i32 c16_i32_0
  let v6 : BitVec 32 := Scalar.remsi v3 v5
  let c0_i32_2 : BitVec 32 := 0#32
  let v8 : BitVec 1 := Scalar.cmpi .slt v6 c0_i32_2
  let c0_i32_3 : BitVec 32 := 0#32
  let v9 : BitVec 1 := Scalar.cmpi .slt v5 c0_i32_3
  let v10 : BitVec 1 := Scalar.xori v8 v9
  let c0_i32_1 : BitVec 32 := 0#32
  let v7 : BitVec 1 := Scalar.cmpi .ne v6 c0_i32_1
  let v11 : BitVec 1 := Scalar.andi v10 v7
  let v12 : BitVec 32 := Scalar.addi v6 v5
  let v13 : BitVec 32 := Scalar.select v11 v12 v6
  let c1_i32_2995 : BitVec 32 := 1#32
  let v2695 : BitVec 32 := Scalar.addi v13 c1_i32_2995
  let v2696 : BitVec 32 := Scalar.subi v2695 c0_i32_2996
  let c16_i32_2997 : BitVec 32 := 16#32
  let c0_i32_2998 : BitVec 32 := 0#32
  let v2697 : BitVec 1 := Scalar.cmpi .eq c16_i32_2997 c0_i32_2998
  let c1_i32_2999 : BitVec 32 := 1#32
  let v2698 : BitVec 32 := Scalar.select v2697 c1_i32_2999 c16_i32_2997
  let v2699 : BitVec 32 := Scalar.remsi v2696 v2698
  let c0_i32_3001 : BitVec 32 := 0#32
  let v2701 : BitVec 1 := Scalar.cmpi .slt v2699 c0_i32_3001
  let c0_i32_3002 : BitVec 32 := 0#32
  let v2702 : BitVec 1 := Scalar.cmpi .slt v2698 c0_i32_3002
  let v2703 : BitVec 1 := Scalar.xori v2701 v2702
  let c0_i32_3000 : BitVec 32 := 0#32
  let v2700 : BitVec 1 := Scalar.cmpi .ne v2699 c0_i32_3000
  let v2704 : BitVec 1 := Scalar.andi v2703 v2700
  let v2705 : BitVec 32 := Scalar.addi v2699 v2698
  let v2706 : BitVec 32 := Scalar.select v2704 v2705 v2699
  let c32_i32_3003 : BitVec 32 := 32#32
  let v2707 : BitVec 32 := Scalar.muli v2706 c32_i32_3003
  let v2708 : BitVec 32 := Scalar.addi c1024_i32_3004 v2707
  let c0_i32_3011 : BitVec 32 := 0#32
  ![v2708.toNat, 0]

def k0_chk1 (v0 : BitVec 32) : Prop :=
  (∀ (r : Fin 2), ∀ a, (k0_off1 v0 (BitVec.ofNat 32 (512 * r.val))) a + S32x128.size a ≤ S2048x128.size a) ∧
  (∀ (r : Fin 2), ∀ a, (k0_off2 v0 (BitVec.ofNat 32 (1024 + 512 * r.val))) a + S32x128.size a ≤ S2048x128.size a) ∧
  (∀ (r₁ : Fin 2) (r₂ : Fin 15), ∀ a, (k0_off3 v0 (BitVec.ofNat 32 (512 * r₁.val)) (BitVec.ofNat 32 r₂.val)) a + S32x128.size a ≤ S2048x128.size a) ∧
  (∀ (r₁ : Fin 2) (r₂ : Fin 15), ∀ a, (k0_off4 v0 (BitVec.ofNat 32 (1024 + 512 * r₁.val)) (BitVec.ofNat 32 r₂.val)) a + S32x128.size a ≤ S2048x128.size a) ∧
  (∀ (r : Fin 2), ∀ a, (k0_off5 v0 (BitVec.ofNat 32 (512 * r.val))) a + S32x2048.size a ≤ S2048x2048.size a) ∧
  (∀ (r₁ : Fin 2) (r₂ : Fin 15), ∀ a, (k0_off6 v0 (BitVec.ofNat 32 (512 * r₁.val)) (BitVec.ofNat 32 r₂.val)) a + S32x2048.size a ≤ S2048x2048.size a) ∧
  (∀ (r : Fin 2), ∀ a, (k0_off7 v0 (BitVec.ofNat 32 (1024 + 512 * r.val))) a + S32x2048.size a ≤ S2048x2048.size a) ∧
  (∀ (r₁ : Fin 2) (r₂ : Fin 15), ∀ a, (k0_off8 v0 (BitVec.ofNat 32 (1024 + 512 * r₁.val)) (BitVec.ofNat 32 r₂.val)) a + S32x2048.size a ≤ S2048x2048.size a)
theorem k0_off1_inb : ∀ (v0 : BitVec 32) (k0_hw1 : k0_chk1 v0), ∀ (r : Fin 2), ∀ a, (k0_off1 v0 (BitVec.ofNat 32 (512 * r.val))) a + S32x128.size a ≤ S2048x128.size a := fun v0 k0_hw1 r => k0_hw1.1 r
theorem k0_off2_inb : ∀ (v0 : BitVec 32) (k0_hw1 : k0_chk1 v0), ∀ (r : Fin 2), ∀ a, (k0_off2 v0 (BitVec.ofNat 32 (1024 + 512 * r.val))) a + S32x128.size a ≤ S2048x128.size a := fun v0 k0_hw1 r => k0_hw1.2.1 r
theorem k0_off3_inb : ∀ (v0 : BitVec 32) (k0_hw1 : k0_chk1 v0), ∀ (r₁ : Fin 2) (r₂ : Fin 15), ∀ a, (k0_off3 v0 (BitVec.ofNat 32 (512 * r₁.val)) (BitVec.ofNat 32 r₂.val)) a + S32x128.size a ≤ S2048x128.size a := fun v0 k0_hw1 r₁ r₂ => k0_hw1.2.2.1 r₁ r₂
theorem k0_off4_inb : ∀ (v0 : BitVec 32) (k0_hw1 : k0_chk1 v0), ∀ (r₁ : Fin 2) (r₂ : Fin 15), ∀ a, (k0_off4 v0 (BitVec.ofNat 32 (1024 + 512 * r₁.val)) (BitVec.ofNat 32 r₂.val)) a + S32x128.size a ≤ S2048x128.size a := fun v0 k0_hw1 r₁ r₂ => k0_hw1.2.2.2.1 r₁ r₂
theorem k0_off5_inb : ∀ (v0 : BitVec 32) (k0_hw1 : k0_chk1 v0), ∀ (r : Fin 2), ∀ a, (k0_off5 v0 (BitVec.ofNat 32 (512 * r.val))) a + S32x2048.size a ≤ S2048x2048.size a := fun v0 k0_hw1 r => k0_hw1.2.2.2.2.1 r
theorem k0_off6_inb : ∀ (v0 : BitVec 32) (k0_hw1 : k0_chk1 v0), ∀ (r₁ : Fin 2) (r₂ : Fin 15), ∀ a, (k0_off6 v0 (BitVec.ofNat 32 (512 * r₁.val)) (BitVec.ofNat 32 r₂.val)) a + S32x2048.size a ≤ S2048x2048.size a := fun v0 k0_hw1 r₁ r₂ => k0_hw1.2.2.2.2.2.1 r₁ r₂
theorem k0_off7_inb : ∀ (v0 : BitVec 32) (k0_hw1 : k0_chk1 v0), ∀ (r : Fin 2), ∀ a, (k0_off7 v0 (BitVec.ofNat 32 (1024 + 512 * r.val))) a + S32x2048.size a ≤ S2048x2048.size a := fun v0 k0_hw1 r => k0_hw1.2.2.2.2.2.2.1 r
theorem k0_off8_inb : ∀ (v0 : BitVec 32) (k0_hw1 : k0_chk1 v0), ∀ (r₁ : Fin 2) (r₂ : Fin 15), ∀ a, (k0_off8 v0 (BitVec.ofNat 32 (1024 + 512 * r₁.val)) (BitVec.ofNat 32 r₂.val)) a + S32x2048.size a ≤ S2048x2048.size a := fun v0 k0_hw1 r₁ r₂ => k0_hw1.2.2.2.2.2.2.2 r₁ r₂

def k0_dev64 (v2 : BitVec 32) : Nat :=
  let c0_i32_3010 : BitVec 32 := 0#32
  let c1_i32_3009 : BitVec 32 := 1#32
  let v2709 : BitVec 32 := Scalar.muli v2 c1_i32_3009
  let v2710 : BitVec 32 := Scalar.addi c0_i32_3010 v2709
  v2710.toNat
def k0_dev65 (v1 : BitVec 32) : Nat :=
  let c0_i32_3130 : BitVec 32 := 0#32
  let c1_i32_3129 : BitVec 32 := 1#32
  let v2837 : BitVec 32 := Scalar.muli v1 c1_i32_3129
  let v2838 : BitVec 32 := Scalar.addi c0_i32_3130 v2837
  v2838.toNat
def k0_dev66 (v2 : BitVec 32) : Nat :=
  let c0_i32_3148 : BitVec 32 := 0#32
  let c1_i32_3147 : BitVec 32 := 1#32
  let v2859 : BitVec 32 := Scalar.muli v2 c1_i32_3147
  let v2860 : BitVec 32 := Scalar.addi c0_i32_3148 v2859
  v2860.toNat
def k0_dev67 (v1 : BitVec 32) : Nat :=
  let c0_i32_3174 : BitVec 32 := 0#32
  let c1_i32_3173 : BitVec 32 := 1#32
  let v2887 : BitVec 32 := Scalar.muli v1 c1_i32_3173
  let v2888 : BitVec 32 := Scalar.addi c0_i32_3174 v2887
  v2888.toNat
def k0_dev68 (v2 : BitVec 32) : Nat :=
  let c0_i32_3200 : BitVec 32 := 0#32
  let c1_i32_3199 : BitVec 32 := 1#32
  let v2915 : BitVec 32 := Scalar.muli v2 c1_i32_3199
  let v2916 : BitVec 32 := Scalar.addi c0_i32_3200 v2915
  v2916.toNat
def k0_dev69 (v1 : BitVec 32) : Nat :=
  let c0_i32_3234 : BitVec 32 := 0#32
  let c1_i32_3233 : BitVec 32 := 1#32
  let v2949 : BitVec 32 := Scalar.muli v1 c1_i32_3233
  let v2950 : BitVec 32 := Scalar.addi c0_i32_3234 v2949
  v2950.toNat
def k0_dev70 (v2 : BitVec 32) : Nat :=
  let c0_i32_3252 : BitVec 32 := 0#32
  let c1_i32_3251 : BitVec 32 := 1#32
  let v2971 : BitVec 32 := Scalar.muli v2 c1_i32_3251
  let v2972 : BitVec 32 := Scalar.addi c0_i32_3252 v2971
  v2972.toNat
def k0_dev71 (v1 : BitVec 32) : Nat :=
  let c0_i32_3278 : BitVec 32 := 0#32
  let c1_i32_3277 : BitVec 32 := 1#32
  let v2999 : BitVec 32 := Scalar.muli v1 c1_i32_3277
  let v3000 : BitVec 32 := Scalar.addi c0_i32_3278 v2999
  v3000.toNat
def k0_dev72 (v2 : BitVec 32) : Nat :=
  let c0_i32_3304 : BitVec 32 := 0#32
  let c1_i32_3303 : BitVec 32 := 1#32
  let v3027 : BitVec 32 := Scalar.muli v2 c1_i32_3303
  let v3028 : BitVec 32 := Scalar.addi c0_i32_3304 v3027
  v3028.toNat
def k0_dev73 (v1 : BitVec 32) : Nat :=
  let c0_i32_3338 : BitVec 32 := 0#32
  let c1_i32_3337 : BitVec 32 := 1#32
  let v3061 : BitVec 32 := Scalar.muli v1 c1_i32_3337
  let v3062 : BitVec 32 := Scalar.addi c0_i32_3338 v3061
  v3062.toNat
def k0_dev74 (v2 : BitVec 32) : Nat :=
  let c0_i32_3356 : BitVec 32 := 0#32
  let c1_i32_3355 : BitVec 32 := 1#32
  let v3083 : BitVec 32 := Scalar.muli v2 c1_i32_3355
  let v3084 : BitVec 32 := Scalar.addi c0_i32_3356 v3083
  v3084.toNat
def k0_dev75 (v1 : BitVec 32) : Nat :=
  let c0_i32_3382 : BitVec 32 := 0#32
  let c1_i32_3381 : BitVec 32 := 1#32
  let v3111 : BitVec 32 := Scalar.muli v1 c1_i32_3381
  let v3112 : BitVec 32 := Scalar.addi c0_i32_3382 v3111
  v3112.toNat
def k0_dev76 (v2 : BitVec 32) : Nat :=
  let c0_i32_3408 : BitVec 32 := 0#32
  let c1_i32_3407 : BitVec 32 := 1#32
  let v3139 : BitVec 32 := Scalar.muli v2 c1_i32_3407
  let v3140 : BitVec 32 := Scalar.addi c0_i32_3408 v3139
  v3140.toNat
def k0_dev77 (v1 : BitVec 32) : Nat :=
  let c0_i32_3442 : BitVec 32 := 0#32
  let c1_i32_3441 : BitVec 32 := 1#32
  let v3173 : BitVec 32 := Scalar.muli v1 c1_i32_3441
  let v3174 : BitVec 32 := Scalar.addi c0_i32_3442 v3173
  v3174.toNat
def k0_dev78 (v2 : BitVec 32) : Nat :=
  let c0_i32_3460 : BitVec 32 := 0#32
  let c1_i32_3459 : BitVec 32 := 1#32
  let v3195 : BitVec 32 := Scalar.muli v2 c1_i32_3459
  let v3196 : BitVec 32 := Scalar.addi c0_i32_3460 v3195
  v3196.toNat
def k0_dev79 (v1 : BitVec 32) : Nat :=
  let c0_i32_3486 : BitVec 32 := 0#32
  let c1_i32_3485 : BitVec 32 := 1#32
  let v3223 : BitVec 32 := Scalar.muli v1 c1_i32_3485
  let v3224 : BitVec 32 := Scalar.addi c0_i32_3486 v3223
  v3224.toNat
def k0_dev80 (v2 : BitVec 32) : Nat :=
  let c0_i32_3512 : BitVec 32 := 0#32
  let c1_i32_3511 : BitVec 32 := 1#32
  let v3251 : BitVec 32 := Scalar.muli v2 c1_i32_3511
  let v3252 : BitVec 32 := Scalar.addi c0_i32_3512 v3251
  v3252.toNat
def k0_dev81 (v1 : BitVec 32) : Nat :=
  let c0_i32_3546 : BitVec 32 := 0#32
  let c1_i32_3545 : BitVec 32 := 1#32
  let v3285 : BitVec 32 := Scalar.muli v1 c1_i32_3545
  let v3286 : BitVec 32 := Scalar.addi c0_i32_3546 v3285
  v3286.toNat
def k0_dev82 (v2 : BitVec 32) : Nat :=
  let c0_i32_3564 : BitVec 32 := 0#32
  let c1_i32_3563 : BitVec 32 := 1#32
  let v3307 : BitVec 32 := Scalar.muli v2 c1_i32_3563
  let v3308 : BitVec 32 := Scalar.addi c0_i32_3564 v3307
  v3308.toNat
def k0_dev83 (v1 : BitVec 32) : Nat :=
  let c0_i32_3590 : BitVec 32 := 0#32
  let c1_i32_3589 : BitVec 32 := 1#32
  let v3335 : BitVec 32 := Scalar.muli v1 c1_i32_3589
  let v3336 : BitVec 32 := Scalar.addi c0_i32_3590 v3335
  v3336.toNat
def k0_dev84 (v2 : BitVec 32) : Nat :=
  let c0_i32_3616 : BitVec 32 := 0#32
  let c1_i32_3615 : BitVec 32 := 1#32
  let v3363 : BitVec 32 := Scalar.muli v2 c1_i32_3615
  let v3364 : BitVec 32 := Scalar.addi c0_i32_3616 v3363
  v3364.toNat
def k0_dev85 (v1 : BitVec 32) : Nat :=
  let c0_i32_3650 : BitVec 32 := 0#32
  let c1_i32_3649 : BitVec 32 := 1#32
  let v3397 : BitVec 32 := Scalar.muli v1 c1_i32_3649
  let v3398 : BitVec 32 := Scalar.addi c0_i32_3650 v3397
  v3398.toNat
def k0_dev86 (v2 : BitVec 32) : Nat :=
  let c0_i32_3668 : BitVec 32 := 0#32
  let c1_i32_3667 : BitVec 32 := 1#32
  let v3419 : BitVec 32 := Scalar.muli v2 c1_i32_3667
  let v3420 : BitVec 32 := Scalar.addi c0_i32_3668 v3419
  v3420.toNat
def k0_dev87 (v1 : BitVec 32) : Nat :=
  let c0_i32_3694 : BitVec 32 := 0#32
  let c1_i32_3693 : BitVec 32 := 1#32
  let v3447 : BitVec 32 := Scalar.muli v1 c1_i32_3693
  let v3448 : BitVec 32 := Scalar.addi c0_i32_3694 v3447
  v3448.toNat
def k0_dev88 (v2 : BitVec 32) : Nat :=
  let c0_i32_3720 : BitVec 32 := 0#32
  let c1_i32_3719 : BitVec 32 := 1#32
  let v3475 : BitVec 32 := Scalar.muli v2 c1_i32_3719
  let v3476 : BitVec 32 := Scalar.addi c0_i32_3720 v3475
  v3476.toNat
def k0_dev89 (v1 : BitVec 32) : Nat :=
  let c0_i32_3754 : BitVec 32 := 0#32
  let c1_i32_3753 : BitVec 32 := 1#32
  let v3509 : BitVec 32 := Scalar.muli v1 c1_i32_3753
  let v3510 : BitVec 32 := Scalar.addi c0_i32_3754 v3509
  v3510.toNat
def k0_dev90 (v2 : BitVec 32) : Nat :=
  let c0_i32_3772 : BitVec 32 := 0#32
  let c1_i32_3771 : BitVec 32 := 1#32
  let v3531 : BitVec 32 := Scalar.muli v2 c1_i32_3771
  let v3532 : BitVec 32 := Scalar.addi c0_i32_3772 v3531
  v3532.toNat
def k0_dev91 (v1 : BitVec 32) : Nat :=
  let c0_i32_3798 : BitVec 32 := 0#32
  let c1_i32_3797 : BitVec 32 := 1#32
  let v3559 : BitVec 32 := Scalar.muli v1 c1_i32_3797
  let v3560 : BitVec 32 := Scalar.addi c0_i32_3798 v3559
  v3560.toNat
def k0_dev92 (v2 : BitVec 32) : Nat :=
  let c0_i32_3824 : BitVec 32 := 0#32
  let c1_i32_3823 : BitVec 32 := 1#32
  let v3587 : BitVec 32 := Scalar.muli v2 c1_i32_3823
  let v3588 : BitVec 32 := Scalar.addi c0_i32_3824 v3587
  v3588.toNat
def k0_dev93 (v1 : BitVec 32) : Nat :=
  let c0_i32_3858 : BitVec 32 := 0#32
  let c1_i32_3857 : BitVec 32 := 1#32
  let v3621 : BitVec 32 := Scalar.muli v1 c1_i32_3857
  let v3622 : BitVec 32 := Scalar.addi c0_i32_3858 v3621
  v3622.toNat
def k0_dev94 (v2 : BitVec 32) : Nat :=
  let c0_i32_3876 : BitVec 32 := 0#32
  let c1_i32_3875 : BitVec 32 := 1#32
  let v3643 : BitVec 32 := Scalar.muli v2 c1_i32_3875
  let v3644 : BitVec 32 := Scalar.addi c0_i32_3876 v3643
  v3644.toNat
def k0_dev95 (v1 : BitVec 32) : Nat :=
  let c0_i32_3902 : BitVec 32 := 0#32
  let c1_i32_3901 : BitVec 32 := 1#32
  let v3671 : BitVec 32 := Scalar.muli v1 c1_i32_3901
  let v3672 : BitVec 32 := Scalar.addi c0_i32_3902 v3671
  v3672.toNat
def k0_dev96 (v2 : BitVec 32) : Nat :=
  let c0_i32_3928 : BitVec 32 := 0#32
  let c1_i32_3927 : BitVec 32 := 1#32
  let v3699 : BitVec 32 := Scalar.muli v2 c1_i32_3927
  let v3700 : BitVec 32 := Scalar.addi c0_i32_3928 v3699
  v3700.toNat
def k0_dev97 (v1 : BitVec 32) : Nat :=
  let c0_i32_3962 : BitVec 32 := 0#32
  let c1_i32_3961 : BitVec 32 := 1#32
  let v3733 : BitVec 32 := Scalar.muli v1 c1_i32_3961
  let v3734 : BitVec 32 := Scalar.addi c0_i32_3962 v3733
  v3734.toNat
def k0_dev98 (v2 : BitVec 32) : Nat :=
  let c0_i32_3980 : BitVec 32 := 0#32
  let c1_i32_3979 : BitVec 32 := 1#32
  let v3755 : BitVec 32 := Scalar.muli v2 c1_i32_3979
  let v3756 : BitVec 32 := Scalar.addi c0_i32_3980 v3755
  v3756.toNat
def k0_dev99 (v1 : BitVec 32) : Nat :=
  let c0_i32_4006 : BitVec 32 := 0#32
  let c1_i32_4005 : BitVec 32 := 1#32
  let v3783 : BitVec 32 := Scalar.muli v1 c1_i32_4005
  let v3784 : BitVec 32 := Scalar.addi c0_i32_4006 v3783
  v3784.toNat
def k0_dev100 (v2 : BitVec 32) : Nat :=
  let c0_i32_4032 : BitVec 32 := 0#32
  let c1_i32_4031 : BitVec 32 := 1#32
  let v3811 : BitVec 32 := Scalar.muli v2 c1_i32_4031
  let v3812 : BitVec 32 := Scalar.addi c0_i32_4032 v3811
  v3812.toNat
def k0_dev101 (v1 : BitVec 32) : Nat :=
  let c0_i32_4066 : BitVec 32 := 0#32
  let c1_i32_4065 : BitVec 32 := 1#32
  let v3845 : BitVec 32 := Scalar.muli v1 c1_i32_4065
  let v3846 : BitVec 32 := Scalar.addi c0_i32_4066 v3845
  v3846.toNat
def k0_dev102 (v2 : BitVec 32) : Nat :=
  let c0_i32_4084 : BitVec 32 := 0#32
  let c1_i32_4083 : BitVec 32 := 1#32
  let v3867 : BitVec 32 := Scalar.muli v2 c1_i32_4083
  let v3868 : BitVec 32 := Scalar.addi c0_i32_4084 v3867
  v3868.toNat
def k0_dev103 (v1 : BitVec 32) : Nat :=
  let c0_i32_4110 : BitVec 32 := 0#32
  let c1_i32_4109 : BitVec 32 := 1#32
  let v3895 : BitVec 32 := Scalar.muli v1 c1_i32_4109
  let v3896 : BitVec 32 := Scalar.addi c0_i32_4110 v3895
  v3896.toNat
def k0_dev104 (v2 : BitVec 32) : Nat :=
  let c0_i32_4136 : BitVec 32 := 0#32
  let c1_i32_4135 : BitVec 32 := 1#32
  let v3923 : BitVec 32 := Scalar.muli v2 c1_i32_4135
  let v3924 : BitVec 32 := Scalar.addi c0_i32_4136 v3923
  v3924.toNat
def k0_dev105 (v1 : BitVec 32) : Nat :=
  let c0_i32_4170 : BitVec 32 := 0#32
  let c1_i32_4169 : BitVec 32 := 1#32
  let v3957 : BitVec 32 := Scalar.muli v1 c1_i32_4169
  let v3958 : BitVec 32 := Scalar.addi c0_i32_4170 v3957
  v3958.toNat
def k0_dev106 (v2 : BitVec 32) : Nat :=
  let c0_i32_4188 : BitVec 32 := 0#32
  let c1_i32_4187 : BitVec 32 := 1#32
  let v3979 : BitVec 32 := Scalar.muli v2 c1_i32_4187
  let v3980 : BitVec 32 := Scalar.addi c0_i32_4188 v3979
  v3980.toNat
def k0_dev107 (v1 : BitVec 32) : Nat :=
  let c0_i32_4214 : BitVec 32 := 0#32
  let c1_i32_4213 : BitVec 32 := 1#32
  let v4007 : BitVec 32 := Scalar.muli v1 c1_i32_4213
  let v4008 : BitVec 32 := Scalar.addi c0_i32_4214 v4007
  v4008.toNat
def k0_dev108 (v2 : BitVec 32) : Nat :=
  let c0_i32_4240 : BitVec 32 := 0#32
  let c1_i32_4239 : BitVec 32 := 1#32
  let v4035 : BitVec 32 := Scalar.muli v2 c1_i32_4239
  let v4036 : BitVec 32 := Scalar.addi c0_i32_4240 v4035
  v4036.toNat
def k0_dev109 (v1 : BitVec 32) : Nat :=
  let c0_i32_4274 : BitVec 32 := 0#32
  let c1_i32_4273 : BitVec 32 := 1#32
  let v4069 : BitVec 32 := Scalar.muli v1 c1_i32_4273
  let v4070 : BitVec 32 := Scalar.addi c0_i32_4274 v4069
  v4070.toNat
def k0_dev110 (v2 : BitVec 32) : Nat :=
  let c0_i32_4292 : BitVec 32 := 0#32
  let c1_i32_4291 : BitVec 32 := 1#32
  let v4091 : BitVec 32 := Scalar.muli v2 c1_i32_4291
  let v4092 : BitVec 32 := Scalar.addi c0_i32_4292 v4091
  v4092.toNat
def k0_dev111 (v1 : BitVec 32) : Nat :=
  let c0_i32_4318 : BitVec 32 := 0#32
  let c1_i32_4317 : BitVec 32 := 1#32
  let v4119 : BitVec 32 := Scalar.muli v1 c1_i32_4317
  let v4120 : BitVec 32 := Scalar.addi c0_i32_4318 v4119
  v4120.toNat
def k0_dev112 (v2 : BitVec 32) : Nat :=
  let c0_i32_4344 : BitVec 32 := 0#32
  let c1_i32_4343 : BitVec 32 := 1#32
  let v4147 : BitVec 32 := Scalar.muli v2 c1_i32_4343
  let v4148 : BitVec 32 := Scalar.addi c0_i32_4344 v4147
  v4148.toNat
def k0_dev113 (v1 : BitVec 32) : Nat :=
  let c0_i32_4378 : BitVec 32 := 0#32
  let c1_i32_4377 : BitVec 32 := 1#32
  let v4181 : BitVec 32 := Scalar.muli v1 c1_i32_4377
  let v4182 : BitVec 32 := Scalar.addi c0_i32_4378 v4181
  v4182.toNat
def k0_dev114 (v2 : BitVec 32) : Nat :=
  let c0_i32_4396 : BitVec 32 := 0#32
  let c1_i32_4395 : BitVec 32 := 1#32
  let v4203 : BitVec 32 := Scalar.muli v2 c1_i32_4395
  let v4204 : BitVec 32 := Scalar.addi c0_i32_4396 v4203
  v4204.toNat
def k0_dev115 (v1 : BitVec 32) : Nat :=
  let c0_i32_4422 : BitVec 32 := 0#32
  let c1_i32_4421 : BitVec 32 := 1#32
  let v4231 : BitVec 32 := Scalar.muli v1 c1_i32_4421
  let v4232 : BitVec 32 := Scalar.addi c0_i32_4422 v4231
  v4232.toNat
def k0_dev116 (v2 : BitVec 32) : Nat :=
  let c0_i32_4448 : BitVec 32 := 0#32
  let c1_i32_4447 : BitVec 32 := 1#32
  let v4259 : BitVec 32 := Scalar.muli v2 c1_i32_4447
  let v4260 : BitVec 32 := Scalar.addi c0_i32_4448 v4259
  v4260.toNat
def k0_dev117 (v1 : BitVec 32) : Nat :=
  let c0_i32_4482 : BitVec 32 := 0#32
  let c1_i32_4481 : BitVec 32 := 1#32
  let v4293 : BitVec 32 := Scalar.muli v1 c1_i32_4481
  let v4294 : BitVec 32 := Scalar.addi c0_i32_4482 v4293
  v4294.toNat
def k0_dev118 (v2 : BitVec 32) : Nat :=
  let c0_i32_4500 : BitVec 32 := 0#32
  let c1_i32_4499 : BitVec 32 := 1#32
  let v4315 : BitVec 32 := Scalar.muli v2 c1_i32_4499
  let v4316 : BitVec 32 := Scalar.addi c0_i32_4500 v4315
  v4316.toNat
def k0_dev119 (v1 : BitVec 32) : Nat :=
  let c0_i32_4526 : BitVec 32 := 0#32
  let c1_i32_4525 : BitVec 32 := 1#32
  let v4343 : BitVec 32 := Scalar.muli v1 c1_i32_4525
  let v4344 : BitVec 32 := Scalar.addi c0_i32_4526 v4343
  v4344.toNat
def k0_dev120 (v2 : BitVec 32) : Nat :=
  let c0_i32_4552 : BitVec 32 := 0#32
  let c1_i32_4551 : BitVec 32 := 1#32
  let v4371 : BitVec 32 := Scalar.muli v2 c1_i32_4551
  let v4372 : BitVec 32 := Scalar.addi c0_i32_4552 v4371
  v4372.toNat
def k0_dev121 (v1 : BitVec 32) : Nat :=
  let c0_i32_4586 : BitVec 32 := 0#32
  let c1_i32_4585 : BitVec 32 := 1#32
  let v4405 : BitVec 32 := Scalar.muli v1 c1_i32_4585
  let v4406 : BitVec 32 := Scalar.addi c0_i32_4586 v4405
  v4406.toNat

def k0_chk2_0 (v1 : BitVec 32) : Prop :=
  ((k0_dev1 v1) < nD) ∧
  ((k0_dev3 v1) < nD) ∧
  ((k0_dev5 v1) < nD) ∧
  ((k0_dev7 v1) < nD) ∧
  ((k0_dev9 v1) < nD) ∧
  ((k0_dev11 v1) < nD) ∧
  ((k0_dev13 v1) < nD) ∧
  ((k0_dev15 v1) < nD) ∧
  ((k0_dev17 v1) < nD) ∧
  ((k0_dev19 v1) < nD) ∧
  ((k0_dev21 v1) < nD) ∧
  ((k0_dev23 v1) < nD) ∧
  ((k0_dev25 v1) < nD) ∧
  ((k0_dev27 v1) < nD) ∧
  ((k0_dev29 v1) < nD) ∧
  ((k0_dev31 v1) < nD) ∧
  ((k0_dev33 v1) < nD) ∧
  ((k0_dev35 v1) < nD) ∧
  ((k0_dev37 v1) < nD) ∧
  ((k0_dev39 v1) < nD) ∧
  ((k0_dev41 v1) < nD) ∧
  ((k0_dev43 v1) < nD) ∧
  ((k0_dev45 v1) < nD) ∧
  ((k0_dev47 v1) < nD) ∧
  ((k0_dev49 v1) < nD) ∧
  ((k0_dev51 v1) < nD) ∧
  ((k0_dev53 v1) < nD) ∧
  ((k0_dev55 v1) < nD) ∧
  ((k0_dev57 v1) < nD) ∧
  ((k0_dev59 v1) < nD) ∧
  ((k0_dev61 v1) < nD) ∧
  ((k0_dev63 v1) < nD)
def k0_chk2_1 (v1 : BitVec 32) : Prop :=
  ((k0_dev65 v1) < nD) ∧
  ((k0_dev67 v1) < nD) ∧
  ((k0_dev69 v1) < nD) ∧
  ((k0_dev71 v1) < nD) ∧
  ((k0_dev73 v1) < nD) ∧
  ((k0_dev75 v1) < nD) ∧
  ((k0_dev77 v1) < nD) ∧
  ((k0_dev79 v1) < nD) ∧
  ((k0_dev81 v1) < nD) ∧
  ((k0_dev83 v1) < nD) ∧
  ((k0_dev85 v1) < nD) ∧
  ((k0_dev87 v1) < nD) ∧
  ((k0_dev89 v1) < nD) ∧
  ((k0_dev91 v1) < nD) ∧
  ((k0_dev93 v1) < nD) ∧
  ((k0_dev95 v1) < nD) ∧
  ((k0_dev97 v1) < nD) ∧
  ((k0_dev99 v1) < nD) ∧
  ((k0_dev101 v1) < nD) ∧
  ((k0_dev103 v1) < nD) ∧
  ((k0_dev105 v1) < nD) ∧
  ((k0_dev107 v1) < nD) ∧
  ((k0_dev109 v1) < nD) ∧
  ((k0_dev111 v1) < nD) ∧
  ((k0_dev113 v1) < nD) ∧
  ((k0_dev115 v1) < nD) ∧
  ((k0_dev117 v1) < nD) ∧
  ((k0_dev119 v1) < nD) ∧
  ((k0_dev121 v1) < nD)
def k0_chk2 (v1 : BitVec 32) : Prop :=
  k0_chk2_0 v1 ∧
  k0_chk2_1 v1
theorem k0_dev1_lt : ∀ (v1 : BitVec 32) (k0_hw2 : k0_chk2 v1), (k0_dev1 v1) < nD := fun v1 k0_hw2 => k0_hw2.1.1
theorem k0_dev3_lt : ∀ (v1 : BitVec 32) (k0_hw2 : k0_chk2 v1), (k0_dev3 v1) < nD := fun v1 k0_hw2 => k0_hw2.1.2.1
theorem k0_dev5_lt : ∀ (v1 : BitVec 32) (k0_hw2 : k0_chk2 v1), (k0_dev5 v1) < nD := fun v1 k0_hw2 => k0_hw2.1.2.2.1
theorem k0_dev7_lt : ∀ (v1 : BitVec 32) (k0_hw2 : k0_chk2 v1), (k0_dev7 v1) < nD := fun v1 k0_hw2 => k0_hw2.1.2.2.2.1
theorem k0_dev9_lt : ∀ (v1 : BitVec 32) (k0_hw2 : k0_chk2 v1), (k0_dev9 v1) < nD := fun v1 k0_hw2 => k0_hw2.1.2.2.2.2.1
theorem k0_dev11_lt : ∀ (v1 : BitVec 32) (k0_hw2 : k0_chk2 v1), (k0_dev11 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev15_lt : ∀ (v1 : BitVec 32) (k0_hw2 : k0_chk2 v1), (k0_dev15 v1) < nD := fun v1 k0_hw2 => k0_hw2.1.2.2.2.2.2.2.2.1
theorem k0_dev17_lt : ∀ (v1 : BitVec 32) (k0_hw2 : k0_chk2 v1), (k0_dev17 v1) < nD := fun v1 k0_hw2 => k0_hw2.1.2.2.2.2.2.2.2.2.1
theorem k0_dev19_lt : ∀ (v1 : BitVec 32) (k0_hw2 : k0_chk2 v1), (k0_dev19 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev23_lt : ∀ (v1 : BitVec 32) (k0_hw2 : k0_chk2 v1), (k0_dev23 v1) < nD := fun v1 k0_hw2 => k0_hw2.1.2.2.2.2.2.2.2.2.2.2.2.1
theorem k0_dev25_lt : ∀ (v1 : BitVec 32) (k0_hw2 : k0_chk2 v1), (k0_dev25 v1) < nD := fun v1 k0_hw2 => k0_hw2.1.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.1
theorem k0_dev41_lt : ∀ (v1 : BitVec 32) (k0_hw2 : k0_chk2 v1), (k0_dev41 v1) < nD := fun v1 k0_hw2 => k0_hw2.1.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.1
theorem k0_dev53_lt : ∀ (v1 : BitVec 32) (k0_hw2 : k0_chk2 v1), (k0_dev53 v1) < nD := fun v1 k0_hw2 => k0_hw2.1.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.1
theorem k0_dev57_lt : ∀ (v1 : BitVec 32) (k0_hw2 : k0_chk2 v1), (k0_dev57 v1) < nD := fun v1 k0_hw2 => k0_hw2.1.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev63_lt : ∀ (v1 : BitVec 32) (k0_hw2 : k0_chk2 v1), (k0_dev63 v1) < nD := fun v1 k0_hw2 => k0_hw2.1.2.2.2.2.2.2.2.2.2.2.2.2.2.2.2.2.2.2.2.2.2.2.2.2.2.2.2.2.2.2.2
theorem k0_dev65_lt : ∀ (v1 : BitVec 32) (k0_hw2 : k0_chk2 v1), (k0_dev65 v1) < nD := fun v1 k0_hw2 => k0_hw2.2.1
theorem k0_dev67_lt : ∀ (v1 : BitVec 32) (k0_hw2 : k0_chk2 v1), (k0_dev67 v1) < nD := fun v1 k0_hw2 => k0_hw2.2.2.1
theorem k0_dev69_lt : ∀ (v1 : BitVec 32) (k0_hw2 : k0_chk2 v1), (k0_dev69 v1) < nD := fun v1 k0_hw2 => k0_hw2.2.2.2.1
theorem k0_dev71_lt : ∀ (v1 : BitVec 32) (k0_hw2 : k0_chk2 v1), (k0_dev71 v1) < nD := fun v1 k0_hw2 => k0_hw2.2.2.2.2.1
theorem k0_dev73_lt : ∀ (v1 : BitVec 32) (k0_hw2 : k0_chk2 v1), (k0_dev73 v1) < nD := fun v1 k0_hw2 => k0_hw2.2.2.2.2.2.1
theorem k0_dev75_lt : ∀ (v1 : BitVec 32) (k0_hw2 : k0_chk2 v1), (k0_dev75 v1) < nD := fun v1 k0_hw2 => k0_hw2.2.2.2.2.2.2.1
theorem k0_dev77_lt : ∀ (v1 : BitVec 32) (k0_hw2 : k0_chk2 v1), (k0_dev77 v1) < nD := fun v1 k0_hw2 => k0_hw2.2.2.2.2.2.2.2.1
theorem k0_dev79_lt : ∀ (v1 : BitVec 32) (k0_hw2 : k0_chk2 v1), (k0_dev79 v1) < nD := fun v1 k0_hw2 => k0_hw2.2.2.2.2.2.2.2.2.1
theorem k0_dev81_lt : ∀ (v1 : BitVec 32) (k0_hw2 : k0_chk2 v1), (k0_dev81 v1) < nD := fun v1 k0_hw2 => k0_hw2.2.2.2.2.2.2.2.2.2.1
theorem k0_dev83_lt : ∀ (v1 : BitVec 32) (k0_hw2 : k0_chk2 v1), (k0_dev83 v1) < nD := fun v1 k0_hw2 => k0_hw2.2.2.2.2.2.2.2.2.2.2.1
theorem k0_dev85_lt : ∀ (v1 : BitVec 32) (k0_hw2 : k0_chk2 v1), (k0_dev85 v1) < nD := fun v1 k0_hw2 => k0_hw2.2.2.2.2.2.2.2.2.2.2.2.1
theorem k0_dev87_lt : ∀ (v1 : BitVec 32) (k0_hw2 : k0_chk2 v1), (k0_dev87 v1) < nD := fun v1 k0_hw2 => k0_hw2.2.2.2.2.2.2.2.2.2.2.2.2.1
theorem k0_dev89_lt : ∀ (v1 : BitVec 32) (k0_hw2 : k0_chk2 v1), (k0_dev89 v1) < nD := fun v1 k0_hw2 => k0_hw2.2.2.2.2.2.2.2.2.2.2.2.2.2.1
theorem k0_dev91_lt : ∀ (v1 : BitVec 32) (k0_hw2 : k0_chk2 v1), (k0_dev91 v1) < nD := fun v1 k0_hw2 => k0_hw2.2.2.2.2.2.2.2.2.2.2.2.2.2.2.1
theorem k0_dev93_lt : ∀ (v1 : BitVec 32) (k0_hw2 : k0_chk2 v1), (k0_dev93 v1) < nD := fun v1 k0_hw2 => k0_hw2.2.2.2.2.2.2.2.2.2.2.2.2.2.2.2.1
theorem k0_dev95_lt : ∀ (v1 : BitVec 32) (k0_hw2 : k0_chk2 v1), (k0_dev95 v1) < nD := fun v1 k0_hw2 => k0_hw2.2.2.2.2.2.2.2.2.2.2.2.2.2.2.2.2.1
theorem k0_dev97_lt : ∀ (v1 : BitVec 32) (k0_hw2 : k0_chk2 v1), (k0_dev97 v1) < nD := fun v1 k0_hw2 => k0_hw2.2.2.2.2.2.2.2.2.2.2.2.2.2.2.2.2.2.1
theorem k0_dev99_lt : ∀ (v1 : BitVec 32) (k0_hw2 : k0_chk2 v1), (k0_dev99 v1) < nD := fun v1 k0_hw2 => k0_hw2.2.2.2.2.2.2.2.2.2.2.2.2.2.2.2.2.2.2.1
theorem k0_dev101_lt : ∀ (v1 : BitVec 32) (k0_hw2 : k0_chk2 v1), (k0_dev101 v1) < nD := fun v1 k0_hw2 => k0_hw2.2.2.2.2.2.2.2.2.2.2.2.2.2.2.2.2.2.2.2.1
theorem k0_dev103_lt : ∀ (v1 : BitVec 32) (k0_hw2 : k0_chk2 v1), (k0_dev103 v1) < nD := fun v1 k0_hw2 => k0_hw2.2.2.2.2.2.2.2.2.2.2.2.2.2.2.2.2.2.2.2.2.1
theorem k0_dev105_lt : ∀ (v1 : BitVec 32) (k0_hw2 : k0_chk2 v1), (k0_dev105 v1) < nD := fun v1 k0_hw2 => k0_hw2.2.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.2.2.2.2.2.2.2.2.2.2.2.2.2.2.2.2.2.2.2.2.2.2.2.1
theorem k0_dev113_lt : ∀ (v1 : BitVec 32) (k0_hw2 : k0_chk2 v1), (k0_dev113 v1) < nD := fun v1 k0_hw2 => k0_hw2.2.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.2.2.2.2.2.2.2.2.2.2.2.2.2.2.2.2.2.2.2.2.2.2.2.2.2.2.1
theorem k0_dev119_lt : ∀ (v1 : BitVec 32) (k0_hw2 : k0_chk2 v1), (k0_dev119 v1) < nD := fun v1 k0_hw2 => k0_hw2.2.2.2.2.2.2.2.2.2.2.2.2.2.2.2.2.2.2.2.2.2.2.2.2.2.2.2.2.1
theorem k0_dev121_lt : ∀ (v1 : BitVec 32) (k0_hw2 : k0_chk2 v1), (k0_dev121 v1) < nD := fun v1 k0_hw2 => k0_hw2.2.2.2.2.2.2.2.2.2.2.2.2.2.2.2.2.2.2.2.2.2.2.2.2.2.2.2.2.2

def k0_dev122 (v2 : BitVec 32) : Nat :=
  let c0_i32_4604 : BitVec 32 := 0#32
  let c1_i32_4603 : BitVec 32 := 1#32
  let v4427 : BitVec 32 := Scalar.muli v2 c1_i32_4603
  let v4428 : BitVec 32 := Scalar.addi c0_i32_4604 v4427
  v4428.toNat

def k0_chk3_0 (v2 : BitVec 32) : Prop :=
  ((k0_dev2 v2) < nD) ∧
  ((k0_dev4 v2) < nD) ∧
  ((k0_dev6 v2) < nD) ∧
  ((k0_dev8 v2) < nD) ∧
  ((k0_dev10 v2) < nD) ∧
  ((k0_dev12 v2) < nD) ∧
  ((k0_dev14 v2) < nD) ∧
  ((k0_dev16 v2) < nD) ∧
  ((k0_dev18 v2) < nD) ∧
  ((k0_dev20 v2) < nD) ∧
  ((k0_dev22 v2) < nD) ∧
  ((k0_dev24 v2) < nD) ∧
  ((k0_dev26 v2) < nD) ∧
  ((k0_dev28 v2) < nD) ∧
  ((k0_dev30 v2) < nD) ∧
  ((k0_dev32 v2) < nD) ∧
  ((k0_dev34 v2) < nD) ∧
  ((k0_dev36 v2) < nD) ∧
  ((k0_dev38 v2) < nD) ∧
  ((k0_dev40 v2) < nD) ∧
  ((k0_dev42 v2) < nD) ∧
  ((k0_dev44 v2) < nD) ∧
  ((k0_dev46 v2) < nD) ∧
  ((k0_dev48 v2) < nD) ∧
  ((k0_dev50 v2) < nD) ∧
  ((k0_dev52 v2) < nD) ∧
  ((k0_dev54 v2) < nD) ∧
  ((k0_dev56 v2) < nD) ∧
  ((k0_dev58 v2) < nD) ∧
  ((k0_dev60 v2) < nD) ∧
  ((k0_dev62 v2) < nD) ∧
  ((k0_dev64 v2) < nD)
def k0_chk3_1 (v2 : BitVec 32) : Prop :=
  ((k0_dev66 v2) < nD) ∧
  ((k0_dev68 v2) < nD) ∧
  ((k0_dev70 v2) < nD) ∧
  ((k0_dev72 v2) < nD) ∧
  ((k0_dev74 v2) < nD) ∧
  ((k0_dev76 v2) < nD) ∧
  ((k0_dev78 v2) < nD) ∧
  ((k0_dev80 v2) < nD) ∧
  ((k0_dev82 v2) < nD) ∧
  ((k0_dev84 v2) < nD) ∧
  ((k0_dev86 v2) < nD) ∧
  ((k0_dev88 v2) < nD) ∧
  ((k0_dev90 v2) < nD) ∧
  ((k0_dev92 v2) < nD) ∧
  ((k0_dev94 v2) < nD) ∧
  ((k0_dev96 v2) < nD) ∧
  ((k0_dev98 v2) < nD) ∧
  ((k0_dev100 v2) < nD) ∧
  ((k0_dev102 v2) < nD) ∧
  ((k0_dev104 v2) < nD) ∧
  ((k0_dev106 v2) < nD) ∧
  ((k0_dev108 v2) < nD) ∧
  ((k0_dev110 v2) < nD) ∧
  ((k0_dev112 v2) < nD) ∧
  ((k0_dev114 v2) < nD) ∧
  ((k0_dev116 v2) < nD) ∧
  ((k0_dev118 v2) < nD) ∧
  ((k0_dev120 v2) < nD) ∧
  ((k0_dev122 v2) < nD)
def k0_chk3 (v2 : BitVec 32) : Prop :=
  k0_chk3_0 v2 ∧
  k0_chk3_1 v2
theorem k0_dev2_lt : ∀ (v2 : BitVec 32) (k0_hw3 : k0_chk3 v2), (k0_dev2 v2) < nD := fun v2 k0_hw3 => k0_hw3.1.1
theorem k0_dev4_lt : ∀ (v2 : BitVec 32) (k0_hw3 : k0_chk3 v2), (k0_dev4 v2) < nD := fun v2 k0_hw3 => k0_hw3.1.2.1
theorem k0_dev6_lt : ∀ (v2 : BitVec 32) (k0_hw3 : k0_chk3 v2), (k0_dev6 v2) < nD := fun v2 k0_hw3 => k0_hw3.1.2.2.1
theorem k0_dev8_lt : ∀ (v2 : BitVec 32) (k0_hw3 : k0_chk3 v2), (k0_dev8 v2) < nD := fun v2 k0_hw3 => k0_hw3.1.2.2.2.1
theorem k0_dev10_lt : ∀ (v2 : BitVec 32) (k0_hw3 : k0_chk3 v2), (k0_dev10 v2) < nD := fun v2 k0_hw3 => k0_hw3.1.2.2.2.2.1
theorem k0_dev12_lt : ∀ (v2 : BitVec 32) (k0_hw3 : k0_chk3 v2), (k0_dev12 v2) < nD := fun v2 k0_hw3 => k0_hw3.1.2.2.2.2.2.1
theorem k0_dev14_lt : ∀ (v2 : BitVec 32) (k0_hw3 : k0_chk3 v2), (k0_dev14 v2) < nD := fun v2 k0_hw3 => k0_hw3.1.2.2.2.2.2.2.1
theorem k0_dev16_lt : ∀ (v2 : BitVec 32) (k0_hw3 : k0_chk3 v2), (k0_dev16 v2) < nD := fun v2 k0_hw3 => k0_hw3.1.2.2.2.2.2.2.2.1
theorem k0_dev18_lt : ∀ (v2 : BitVec 32) (k0_hw3 : k0_chk3 v2), (k0_dev18 v2) < nD := fun v2 k0_hw3 => k0_hw3.1.2.2.2.2.2.2.2.2.1
theorem k0_dev20_lt : ∀ (v2 : BitVec 32) (k0_hw3 : k0_chk3 v2), (k0_dev20 v2) < nD := fun v2 k0_hw3 => k0_hw3.1.2.2.2.2.2.2.2.2.2.1
theorem k0_dev22_lt : ∀ (v2 : BitVec 32) (k0_hw3 : k0_chk3 v2), (k0_dev22 v2) < nD := fun v2 k0_hw3 => k0_hw3.1.2.2.2.2.2.2.2.2.2.2.1
theorem k0_dev24_lt : ∀ (v2 : BitVec 32) (k0_hw3 : k0_chk3 v2), (k0_dev24 v2) < nD := fun v2 k0_hw3 => k0_hw3.1.2.2.2.2.2.2.2.2.2.2.2.1
theorem k0_dev26_lt : ∀ (v2 : BitVec 32) (k0_hw3 : k0_chk3 v2), (k0_dev26 v2) < nD := fun v2 k0_hw3 => k0_hw3.1.2.2.2.2.2.2.2.2.2.2.2.2.1
theorem k0_dev28_lt : ∀ (v2 : BitVec 32) (k0_hw3 : k0_chk3 v2), (k0_dev28 v2) < nD := fun v2 k0_hw3 => k0_hw3.1.2.2.2.2.2.2.2.2.2.2.2.2.2.1
theorem k0_dev30_lt : ∀ (v2 : BitVec 32) (k0_hw3 : k0_chk3 v2), (k0_dev30 v2) < nD := fun v2 k0_hw3 => k0_hw3.1.2.2.2.2.2.2.2.2.2.2.2.2.2.2.1
theorem k0_dev32_lt : ∀ (v2 : BitVec 32) (k0_hw3 : k0_chk3 v2), (k0_dev32 v2) < nD := fun v2 k0_hw3 => k0_hw3.1.2.2.2.2.2.2.2.2.2.2.2.2.2.2.2.1
theorem k0_dev34_lt : ∀ (v2 : BitVec 32) (k0_hw3 : k0_chk3 v2), (k0_dev34 v2) < nD := fun v2 k0_hw3 => k0_hw3.1.2.2.2.2.2.2.2.2.2.2.2.2.2.2.2.2.1
theorem k0_dev36_lt : ∀ (v2 : BitVec 32) (k0_hw3 : k0_chk3 v2), (k0_dev36 v2) < nD := fun v2 k0_hw3 => k0_hw3.1.2.2.2.2.2.2.2.2.2.2.2.2.2.2.2.2.2.1
theorem k0_dev38_lt : ∀ (v2 : BitVec 32) (k0_hw3 : k0_chk3 v2), (k0_dev38 v2) < nD := fun v2 k0_hw3 => k0_hw3.1.2.2.2.2.2.2.2.2.2.2.2.2.2.2.2.2.2.2.1
theorem k0_dev40_lt : ∀ (v2 : BitVec 32) (k0_hw3 : k0_chk3 v2), (k0_dev40 v2) < nD := fun v2 k0_hw3 => k0_hw3.1.2.2.2.2.2.2.2.2.2.2.2.2.2.2.2.2.2.2.2.1
theorem k0_dev42_lt : ∀ (v2 : BitVec 32) (k0_hw3 : k0_chk3 v2), (k0_dev42 v2) < nD := fun v2 k0_hw3 => k0_hw3.1.2.2.2.2.2.2.2.2.2.2.2.2.2.2.2.2.2.2.2.2.1
theorem k0_dev44_lt : ∀ (v2 : BitVec 32) (k0_hw3 : k0_chk3 v2), (k0_dev44 v2) < nD := fun v2 k0_hw3 => k0_hw3.1.2.2.2.2.2.2.2.2.2.2.2.2.2.2.2.2.2.2.2.2.2.1
theorem k0_dev46_lt : ∀ (v2 : BitVec 32) (k0_hw3 : k0_chk3 v2), (k0_dev46 v2) < nD := fun v2 k0_hw3 => k0_hw3.1.2.2.2.2.2.2.2.2.2.2.2.2.2.2.2.2.2.2.2.2.2.2.1
theorem k0_dev48_lt : ∀ (v2 : BitVec 32) (k0_hw3 : k0_chk3 v2), (k0_dev48 v2) < nD := fun v2 k0_hw3 => k0_hw3.1.2.2.2.2.2.2.2.2.2.2.2.2.2.2.2.2.2.2.2.2.2.2.2.1
theorem k0_dev50_lt : ∀ (v2 : BitVec 32) (k0_hw3 : k0_chk3 v2), (k0_dev50 v2) < nD := fun v2 k0_hw3 => k0_hw3.1.2.2.2.2.2.2.2.2.2.2.2.2.2.2.2.2.2.2.2.2.2.2.2.2.1
theorem k0_dev52_lt : ∀ (v2 : BitVec 32) (k0_hw3 : k0_chk3 v2), (k0_dev52 v2) < nD := fun v2 k0_hw3 => k0_hw3.1.2.2.2.2.2.2.2.2.2.2.2.2.2.2.2.2.2.2.2.2.2.2.2.2.2.1
theorem k0_dev54_lt : ∀ (v2 : BitVec 32) (k0_hw3 : k0_chk3 v2), (k0_dev54 v2) < nD := fun v2 k0_hw3 => k0_hw3.1.2.2.2.2.2.2.2.2.2.2.2.2.2.2.2.2.2.2.2.2.2.2.2.2.2.2.1
theorem k0_dev56_lt : ∀ (v2 : BitVec 32) (k0_hw3 : k0_chk3 v2), (k0_dev56 v2) < nD := fun v2 k0_hw3 => k0_hw3.1.2.2.2.2.2.2.2.2.2.2.2.2.2.2.2.2.2.2.2.2.2.2.2.2.2.2.2.1
theorem k0_dev58_lt : ∀ (v2 : BitVec 32) (k0_hw3 : k0_chk3 v2), (k0_dev58 v2) < nD := fun v2 k0_hw3 => k0_hw3.1.2.2.2.2.2.2.2.2.2.2.2.2.2.2.2.2.2.2.2.2.2.2.2.2.2.2.2.2.1
theorem k0_dev60_lt : ∀ (v2 : BitVec 32) (k0_hw3 : k0_chk3 v2), (k0_dev60 v2) < nD := fun v2 k0_hw3 => k0_hw3.1.2.2.2.2.2.2.2.2.2.2.2.2.2.2.2.2.2.2.2.2.2.2.2.2.2.2.2.2.2.1
theorem k0_dev62_lt : ∀ (v2 : BitVec 32) (k0_hw3 : k0_chk3 v2), (k0_dev62 v2) < nD := fun v2 k0_hw3 => k0_hw3.1.2.2.2.2.2.2.2.2.2.2.2.2.2.2.2.2.2.2.2.2.2.2.2.2.2.2.2.2.2.2.1
theorem k0_dev64_lt : ∀ (v2 : BitVec 32) (k0_hw3 : k0_chk3 v2), (k0_dev64 v2) < nD := fun v2 k0_hw3 => k0_hw3.1.2.2.2.2.2.2.2.2.2.2.2.2.2.2.2.2.2.2.2.2.2.2.2.2.2.2.2.2.2.2.2
theorem k0_dev66_lt : ∀ (v2 : BitVec 32) (k0_hw3 : k0_chk3 v2), (k0_dev66 v2) < nD := fun v2 k0_hw3 => k0_hw3.2.1
theorem k0_dev68_lt : ∀ (v2 : BitVec 32) (k0_hw3 : k0_chk3 v2), (k0_dev68 v2) < nD := fun v2 k0_hw3 => k0_hw3.2.2.1
theorem k0_dev70_lt : ∀ (v2 : BitVec 32) (k0_hw3 : k0_chk3 v2), (k0_dev70 v2) < nD := fun v2 k0_hw3 => k0_hw3.2.2.2.1
theorem k0_dev72_lt : ∀ (v2 : BitVec 32) (k0_hw3 : k0_chk3 v2), (k0_dev72 v2) < nD := fun v2 k0_hw3 => k0_hw3.2.2.2.2.1
theorem k0_dev74_lt : ∀ (v2 : BitVec 32) (k0_hw3 : k0_chk3 v2), (k0_dev74 v2) < nD := fun v2 k0_hw3 => k0_hw3.2.2.2.2.2.1
theorem k0_dev76_lt : ∀ (v2 : BitVec 32) (k0_hw3 : k0_chk3 v2), (k0_dev76 v2) < nD := fun v2 k0_hw3 => k0_hw3.2.2.2.2.2.2.1
theorem k0_dev78_lt : ∀ (v2 : BitVec 32) (k0_hw3 : k0_chk3 v2), (k0_dev78 v2) < nD := fun v2 k0_hw3 => k0_hw3.2.2.2.2.2.2.2.1
theorem k0_dev80_lt : ∀ (v2 : BitVec 32) (k0_hw3 : k0_chk3 v2), (k0_dev80 v2) < nD := fun v2 k0_hw3 => k0_hw3.2.2.2.2.2.2.2.2.1
theorem k0_dev82_lt : ∀ (v2 : BitVec 32) (k0_hw3 : k0_chk3 v2), (k0_dev82 v2) < nD := fun v2 k0_hw3 => k0_hw3.2.2.2.2.2.2.2.2.2.1
theorem k0_dev84_lt : ∀ (v2 : BitVec 32) (k0_hw3 : k0_chk3 v2), (k0_dev84 v2) < nD := fun v2 k0_hw3 => k0_hw3.2.2.2.2.2.2.2.2.2.2.1
theorem k0_dev86_lt : ∀ (v2 : BitVec 32) (k0_hw3 : k0_chk3 v2), (k0_dev86 v2) < nD := fun v2 k0_hw3 => k0_hw3.2.2.2.2.2.2.2.2.2.2.2.1
theorem k0_dev88_lt : ∀ (v2 : BitVec 32) (k0_hw3 : k0_chk3 v2), (k0_dev88 v2) < nD := fun v2 k0_hw3 => k0_hw3.2.2.2.2.2.2.2.2.2.2.2.2.1
theorem k0_dev90_lt : ∀ (v2 : BitVec 32) (k0_hw3 : k0_chk3 v2), (k0_dev90 v2) < nD := fun v2 k0_hw3 => k0_hw3.2.2.2.2.2.2.2.2.2.2.2.2.2.1
theorem k0_dev92_lt : ∀ (v2 : BitVec 32) (k0_hw3 : k0_chk3 v2), (k0_dev92 v2) < nD := fun v2 k0_hw3 => k0_hw3.2.2.2.2.2.2.2.2.2.2.2.2.2.2.1
theorem k0_dev94_lt : ∀ (v2 : BitVec 32) (k0_hw3 : k0_chk3 v2), (k0_dev94 v2) < nD := fun v2 k0_hw3 => k0_hw3.2.2.2.2.2.2.2.2.2.2.2.2.2.2.2.1
theorem k0_dev96_lt : ∀ (v2 : BitVec 32) (k0_hw3 : k0_chk3 v2), (k0_dev96 v2) < nD := fun v2 k0_hw3 => k0_hw3.2.2.2.2.2.2.2.2.2.2.2.2.2.2.2.2.1
theorem k0_dev98_lt : ∀ (v2 : BitVec 32) (k0_hw3 : k0_chk3 v2), (k0_dev98 v2) < nD := fun v2 k0_hw3 => k0_hw3.2.2.2.2.2.2.2.2.2.2.2.2.2.2.2.2.2.1
theorem k0_dev100_lt : ∀ (v2 : BitVec 32) (k0_hw3 : k0_chk3 v2), (k0_dev100 v2) < nD := fun v2 k0_hw3 => k0_hw3.2.2.2.2.2.2.2.2.2.2.2.2.2.2.2.2.2.2.1
theorem k0_dev102_lt : ∀ (v2 : BitVec 32) (k0_hw3 : k0_chk3 v2), (k0_dev102 v2) < nD := fun v2 k0_hw3 => k0_hw3.2.2.2.2.2.2.2.2.2.2.2.2.2.2.2.2.2.2.2.1
theorem k0_dev104_lt : ∀ (v2 : BitVec 32) (k0_hw3 : k0_chk3 v2), (k0_dev104 v2) < nD := fun v2 k0_hw3 => k0_hw3.2.2.2.2.2.2.2.2.2.2.2.2.2.2.2.2.2.2.2.2.1
theorem k0_dev106_lt : ∀ (v2 : BitVec 32) (k0_hw3 : k0_chk3 v2), (k0_dev106 v2) < nD := fun v2 k0_hw3 => k0_hw3.2.2.2.2.2.2.2.2.2.2.2.2.2.2.2.2.2.2.2.2.2.1
theorem k0_dev108_lt : ∀ (v2 : BitVec 32) (k0_hw3 : k0_chk3 v2), (k0_dev108 v2) < nD := fun v2 k0_hw3 => k0_hw3.2.2.2.2.2.2.2.2.2.2.2.2.2.2.2.2.2.2.2.2.2.2.1
theorem k0_dev110_lt : ∀ (v2 : BitVec 32) (k0_hw3 : k0_chk3 v2), (k0_dev110 v2) < nD := fun v2 k0_hw3 => k0_hw3.2.2.2.2.2.2.2.2.2.2.2.2.2.2.2.2.2.2.2.2.2.2.2.1
theorem k0_dev112_lt : ∀ (v2 : BitVec 32) (k0_hw3 : k0_chk3 v2), (k0_dev112 v2) < nD := fun v2 k0_hw3 => k0_hw3.2.2.2.2.2.2.2.2.2.2.2.2.2.2.2.2.2.2.2.2.2.2.2.2.1
theorem k0_dev114_lt : ∀ (v2 : BitVec 32) (k0_hw3 : k0_chk3 v2), (k0_dev114 v2) < nD := fun v2 k0_hw3 => k0_hw3.2.2.2.2.2.2.2.2.2.2.2.2.2.2.2.2.2.2.2.2.2.2.2.2.2.1
theorem k0_dev116_lt : ∀ (v2 : BitVec 32) (k0_hw3 : k0_chk3 v2), (k0_dev116 v2) < nD := fun v2 k0_hw3 => k0_hw3.2.2.2.2.2.2.2.2.2.2.2.2.2.2.2.2.2.2.2.2.2.2.2.2.2.2.1
theorem k0_dev118_lt : ∀ (v2 : BitVec 32) (k0_hw3 : k0_chk3 v2), (k0_dev118 v2) < nD := fun v2 k0_hw3 => k0_hw3.2.2.2.2.2.2.2.2.2.2.2.2.2.2.2.2.2.2.2.2.2.2.2.2.2.2.2.1
theorem k0_dev120_lt : ∀ (v2 : BitVec 32) (k0_hw3 : k0_chk3 v2), (k0_dev120 v2) < nD := fun v2 k0_hw3 => k0_hw3.2.2.2.2.2.2.2.2.2.2.2.2.2.2.2.2.2.2.2.2.2.2.2.2.2.2.2.2.1
theorem k0_dev122_lt : ∀ (v2 : BitVec 32) (k0_hw3 : k0_chk3 v2), (k0_dev122 v2) < nD := fun v2 k0_hw3 => k0_hw3.2.2.2.2.2.2.2.2.2.2.2.2.2.2.2.2.2.2.2.2.2.2.2.2.2.2.2.2.2

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S3 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Prog.lean ====
/- The kernel's body, said with its loops: four rings of chunks that go round sixteen devices.  Each
   step of the printed body is one of a few operations below, at a ring `r` and a hop `s`, and the
   equality `body_eq` says that the printed body is that program, step by step. -/
module

public import proofs.«01_k».proof.KernelIdeal
public import Idealize.ShloMosaic.Lib.Tactic

@[expose] public section

noncomputable section

namespace Cert.Ring

open Cert.KernelIdeal
open Idealize.ShloMosaic Idealize.SL.Sem
open Cert.KernelIdeal.Facts₀ Cert.KernelIdeal.Facts

variable {F : FTy → Type} [FloatOps F] [Facts]

/-- A program of the kernel's. -/
abbrev P (F : FTy → Type) [FloatOps F] : Type 1 := Prog (TpuEff nD τ sig (Elt F) Λ₀ .tc) PUnit

/-- What the body computes from its three words: where each step reads and writes, and the two
    neighbours. -/
structure Plan where
  /-- Rows of `x` for the chunk that starts ring `r`. -/
  ini : Fin 4 → Fin 2 → Nat
  ini_inb : ∀ r a, ini r a + S32x128.size a ≤ S2048x128.size a
  /-- Rows of `x` for the chunk that arrives at hop `s`. -/
  mul : Fin 4 → Fin 15 → Fin 2 → Nat
  mul_inb : ∀ r s a, mul r s a + S32x128.size a ≤ S2048x128.size a
  /-- Rows of the result that this device finishes. -/
  own : Fin 4 → Fin 2 → Nat
  own_inb : ∀ r a, own r a + S32x2048.size a ≤ S2048x2048.size a
  /-- Rows of the result that are sent on at hop `s` of the gathering. -/
  ag : Fin 4 → Fin 15 → Fin 2 → Nat
  ag_inb : ∀ r s a, ag r s a + S32x2048.size a ≤ S2048x2048.size a
  right : Dev nD
  left : Dev nD

/-- The device that ring `r` sends to. -/
def Plan.tgt (D : Plan) (r : Fin 4) : Dev nD := if r.val < 2 then D.right else D.left

/-- The plan that the three words of a device give. -/
def planOf (v0 : BitVec 32) (h1 : k0_chk1 v0) (v1 : BitVec 32) (h2 : k0_chk2 v1) (v2 : BitVec 32)
    (h3 : k0_chk3 v2) : Plan where
  ini r := if r.val < 2 then k0_off1 v0 (BitVec.ofNat 32 (512 * r.val))
    else k0_off2 v0 (BitVec.ofNat 32 (512 * r.val))
  ini_inb := fun r => match r with
    | 0 => k0_off1_inb v0 h1 0 | 1 => k0_off1_inb v0 h1 1
    | 2 => k0_off2_inb v0 h1 0 | 3 => k0_off2_inb v0 h1 1
  mul r s := if r.val < 2 then k0_off3 v0 (BitVec.ofNat 32 (512 * r.val)) (BitVec.ofNat 32 s.val)
    else k0_off4 v0 (BitVec.ofNat 32 (512 * r.val)) (BitVec.ofNat 32 s.val)
  mul_inb := fun r s => match r with
    | 0 => k0_off3_inb v0 h1 0 s | 1 => k0_off3_inb v0 h1 1 s
    | 2 => k0_off4_inb v0 h1 0 s | 3 => k0_off4_inb v0 h1 1 s
  own r := if r.val < 2 then k0_off5 v0 (BitVec.ofNat 32 (512 * r.val))
    else k0_off7 v0 (BitVec.ofNat 32 (512 * r.val))
  own_inb := fun r => match r with
    | 0 => k0_off5_inb v0 h1 0 | 1 => k0_off5_inb v0 h1 1
    | 2 => k0_off7_inb v0 h1 0 | 3 => k0_off7_inb v0 h1 1
  ag r s := if r.val < 2 then k0_off6 v0 (BitVec.ofNat 32 (512 * r.val)) (BitVec.ofNat 32 s.val)
    else k0_off8 v0 (BitVec.ofNat 32 (512 * r.val)) (BitVec.ofNat 32 s.val)
  ag_inb := fun r s => match r with
    | 0 => k0_off6_inb v0 h1 0 s | 1 => k0_off6_inb v0 h1 1 s
    | 2 => k0_off8_inb v0 h1 0 s | 3 => k0_off8_inb v0 h1 1 s
  right := ⟨k0_dev1 v1, k0_dev1_lt v1 h2⟩
  left := ⟨k0_dev2 v2, k0_dev2_lt v2 h3⟩

/-! ## Views -/

theorem slot_inb (r : Fin 4) (k : Fin 16) (a : Fin 4) :
    (![r.val, k.val, 0, 0] : Fin 4 → Nat) a + S1x1x32x2048.size a ≤ S4x16x32x2048.size a := by
  have := r.isLt; have := k.isLt
  fin_cases a <;> simp [Shape.size] <;> omega

theorem sem_inb (r : Fin 4) (s : Fin 15) (a : Fin 2) :
    (![r.val, s.val] : Fin 2 → Nat) a + S1x1.size a ≤ S4x15.size a := by
  have := r.isLt; have := s.isLt
  fin_cases a <;> simp [Shape.size] <;> omega

/-- The rectangle of slot `k` of ring `r` in the travelling buffer. -/
abbrev slotR (r : Fin 4) (k : Fin 16) : Rect S4x16x32x2048 :=
  Rect.unit (s := S4x16x32x2048) ![r.val, k.val, 0, 0] S1x1x32x2048.size (slot_inb r k)

/-- Slot `k` of ring `r`, as 32 rows. -/
abbrev slotV (m : Memref sig .tc .vmem S4x16x32x2048 .f32) (r : Fin 4) (k : Fin 16) :
    Memref sig .tc .vmem S32x2048 .f32 :=
  (m.slice (slotR r k) (fun _ => rfl)).squeeze S32x2048 squeezes_S1x1x32x2048_S32x2048

/-- The semaphore of ring `r`, hop `s`. -/
abbrev semAt (q : DmaSems sig S4x15) (r : Fin 4) (s : Fin 15) : DmaSem sig :=
  ((q.slice (Rect.unit (s := S4x15) ![r.val, s.val] S1x1.size (sem_inb r s))).squeeze S_ squeezes_S1x1_S_).sem

/-- Thirty-two rows of the result. -/
abbrev rowsR (o : Fin 2 → Nat) (h : ∀ a, o a + S32x2048.size a ≤ S2048x2048.size a) : Rect S2048x2048 :=
  Rect.unit (s := S2048x2048) o S32x2048.size h

abbrev rowsV (m : Memref sig .tc .vmem S2048x2048 .f32) (o : Fin 2 → Nat)
    (h : ∀ a, o a + S32x2048.size a ≤ S2048x2048.size a) : Memref sig .tc .vmem S32x2048 .f32 :=
  m.slice (rowsR o h) (fun _ => rfl)

/-- The kernel's barrier semaphore. -/
abbrev barS : Sem sig := (SemArray.scalar (sig.barrier 0 rfl) : Sems sig S_).sem

/-! ## Values -/

/-- The product of 32 rows of `x` with `w`. -/
def mmVal (x : Vec F S32x128 .f32) (w : Vec F S128x2048 .f32) : FVec F S32x2048 .f32 :=
  matmul dot_S32x128_S128x2048_S32x2048_1_0_0_1_n_n none
    (shapeCast S32x128 x shapeCasts_S32x128_S32x128)
    (shapeCast S128x2048 w shapeCasts_S128x2048_S128x2048) (constant S32x2048 .f32 0x00000000#32)

/-- A chunk as the travelling buffer holds it. -/
def toSlot (v : FVec F S32x2048 .f32) : Vec F S1x1x32x2048 .f32 :=
  shapeCast S1x1x32x2048 v shapeCasts_S32x2048_S1x1x32x2048

/-- A chunk read out of the travelling buffer. -/
def ofSlot (v : Vec F S1x1x32x2048 .f32) : FVec F S32x2048 .f32 :=
  shapeCast S32x2048 v shapeCasts_S1x1x32x2048_S32x2048

/-- The larger of a chunk and zero. -/
def reluVal (v : FVec F S32x2048 .f32) : FVec F S32x2048 .f32 :=
  maximumf v (broadcast S32x2048 (Scalar.ofBits .f32 0x00000000#32))

/-! ## Steps: each goes on with the program `k` that follows it -/

variable (arg0 : Memref sig .tc .vmem S2048x128 .f32) (arg1 : Memref sig .tc .vmem S128x2048 .f32)
  (arg2 : Memref sig .tc .smem S3 .i32)
  (arg3 : Memref sig .tc .vmem S2048x2048 .f32) (arg4 : Memref sig .tc .vmem S4x16x32x2048 .f32)
  (arg5 arg6 arg7 arg8 : DmaSems sig S4x15)

/-- Read rows of `x` at `o` and all of `w`, and go on with their product. -/
def mmK (o : Fin 2 → Nat) (h : ∀ a, o a + S32x128.size a ≤ S2048x128.size a)
    (k : FVec F S32x2048 .f32 → P F) : P F :=
  .op (.load arg0 (Rect.unit (s := S2048x128) o S32x128.size h).toLoadRect (View.loadsAt_vmem h_S32x128)) fun x =>
  .op (.load arg1 (Rect.unit (s := S128x2048) ![0, 0] S128x2048.size inb_S128x2048_S128x2048_0_0).toLoadRect
    (View.loadsAt_vmem h_S128x2048)) fun w =>
  k (mmVal x w)

/-- Read a slot. -/
def slotLd (r : Fin 4) (j : Fin 16) (k : Vec F S1x1x32x2048 .f32 → P F) : P F :=
  .op (.load arg4 (slotR r j).toLoadRect (View.loadsAt_vmem h_S1x1x32x2048)) k

/-- Write a slot. -/
def slotSt (r : Fin 4) (j : Fin 16) (v : Vec F S1x1x32x2048 .f32) (k : P F) : P F :=
  .op (.store arg4 (slotR r j) v Finset.univ (View.stores_vmem_bits_univ h_S1x1x32x2048 rfl) (.inl rfl)) fun _ => k

/-- Put the first chunk of ring `r` into its slot 0. -/
def iniK (D : Plan) (r : Fin 4) (k : P F) : P F :=
  mmK arg0 arg1 (D.ini r) (D.ini_inb r) fun v =>
  slotLd arg4 r 0 fun _ => slotSt arg4 r 0 (toSlot v) k

/-- Add `v` to slot `j` of ring `r`. -/
def accK (r : Fin 4) (j : Fin 16) (v : FVec F S32x2048 .f32) (k : P F) : P F :=
  slotLd arg4 r j fun a => slotLd arg4 r j fun _ => slotSt arg4 r j (toSlot (addf (ofSlot a) v)) k

/-- Send slot `s` of ring `r` to slot `s + 1` of the next device. -/
def rsSend (D : Plan) (r : Fin 4) (s : Fin 15) (k : P F) : P F :=
  .op (.enqueueDma (slotV arg4 r s.castSucc) (.remote (Dev.tc (D.tgt r)) (slotV arg4 r s.succ) (.dma (semAt arg5 r s)))
    (.dma (semAt arg6 r s)) ((View.wordExact_bits rfl).reshape _ _) ((View.wordExact_bits rfl).reshape _ _)
    ⟨⟨rfl, Or.inl rfl⟩, trivial⟩) fun _ => k

/-- Wait for what hop `s` of ring `r` brings. -/
def rsRecv (r : Fin 4) (s : Fin 15) (k : P F) : P F :=
  .op (.waitDma2 (semAt arg6 r s) (slotV arg4 r s.castSucc) (slotV arg4 r s.succ)
    ((View.wordExact_bits rfl).reshape _ _) ((View.wordExact_bits rfl).reshape _ _)) fun _ => k

/-- Wait until the send of hop `s` of ring `r` has read its source. -/
def rsDone (r : Fin 4) (s : Fin 15) (k : P F) : P F :=
  .op (.waitDma2 (semAt arg5 r s) (slotV arg4 r s.succ) (slotV arg4 r s.castSucc)
    ((View.wordExact_bits rfl).reshape _ _) ((View.wordExact_bits rfl).reshape _ _)) fun _ => k

/-- Write the finished chunk of ring `r`, no entry below zero, to its rows of the result. -/
def ownK (D : Plan) (r : Fin 4) (k : P F) : P F :=
  slotLd arg4 r 15 fun a =>
  .op (.load arg3 (rowsR (D.own r) (D.own_inb r)).toLoadRect (View.loadsAt_vmem h_S32x2048)) fun _ =>
  .op (.store arg3 (rowsR (D.own r) (D.own_inb r)) (reluVal (ofSlot a)) Finset.univ
    (View.stores_vmem_bits_univ h_S32x2048 rfl) (.inl rfl)) fun _ => k

/-- Send the rows of hop `s` of the gathering of ring `r` to the same rows of the next device. -/
def agSend (D : Plan) (r : Fin 4) (s : Fin 15) (k : P F) : P F :=
  .op (.enqueueDma (rowsV arg3 (D.ag r s) (D.ag_inb r s))
    (.remote (Dev.tc (D.tgt r)) (rowsV arg3 (D.ag r s) (D.ag_inb r s)) (.dma (semAt arg7 r s)))
    (.dma (semAt arg8 r s)) (View.wordExact_bits rfl) (View.wordExact_bits rfl)
    ⟨⟨rfl, Or.inl rfl⟩, trivial⟩) fun _ => k

/-- Wait on the semaphore of ring `r`, hop `s`, in `q` for 32 rows of the result. -/
def agWait (q : DmaSems sig S4x15) (D : Plan) (r : Fin 4) (s : Fin 15) (k : P F) : P F :=
  .op (.waitDma2 (semAt q r s) (rowsV arg3 (D.ag r s) (D.ag_inb r s)) (rowsV arg3 (D.ag r s) (D.ag_inb r s))
    (View.wordExact_bits rfl) (View.wordExact_bits rfl)) fun _ => k

/-- `f` at 0, 1, …, `n - 1`, then `k`. -/
def upTo (f : Fin 15 → P F → P F) : (n : Nat) → n ≤ 15 → P F → P F
  | 0, _, k => k
  | n + 1, h, k => upTo f n (Nat.le_of_succ_le h) (f ⟨n, h⟩ k)

/-- After hop `s` of ring `r`: the next send of that ring, or at the last hop the finished chunk. -/
def nextK (D : Plan) (r : Fin 4) (s : Fin 15) (k : P F) : P F :=
  if h : s.val + 1 < 15 then rsSend arg4 arg5 arg6 D r ⟨s.val + 1, h⟩ k
  else ownK arg3 arg4 D r (agSend arg3 arg7 arg8 D r 0 k)

/-- One hop of the summing: of all four rings. -/
def rsHop (D : Plan) (s : Fin 15) (k : P F) : P F :=
  rsSend arg4 arg5 arg6 D 1 s <| rsSend arg4 arg5 arg6 D 3 s <|
  mmK arg0 arg1 (D.mul 0 s) (D.mul_inb 0 s) fun a0 => mmK arg0 arg1 (D.mul 2 s) (D.mul_inb 2 s) fun a2 =>
  rsRecv arg4 arg6 0 s <| accK arg4 0 s.succ a0 <| nextK arg3 arg4 arg5 arg6 arg7 arg8 D 0 s <|
  rsRecv arg4 arg6 2 s <| accK arg4 2 s.succ a2 <| nextK arg3 arg4 arg5 arg6 arg7 arg8 D 2 s <|
  mmK arg0 arg1 (D.mul 1 s) (D.mul_inb 1 s) fun a1 => mmK arg0 arg1 (D.mul 3 s) (D.mul_inb 3 s) fun a3 =>
  rsRecv arg4 arg6 1 s <| accK arg4 1 s.succ a1 <|
  rsRecv arg4 arg6 3 s <| accK arg4 3 s.succ a3 k

/-- The next send of the gathering, if a hop is left. -/
def agNext (D : Plan) (r : Fin 4) (s : Fin 15) (k : P F) : P F :=
  if h : s.val + 1 < 15 then agSend arg3 arg7 arg8 D r ⟨s.val + 1, h⟩ k else k

/-- One hop of the gathering: of all four rings. -/
def agHop (D : Plan) (s : Fin 15) (k : P F) : P F :=
  agSend arg3 arg7 arg8 D 1 s <| agSend arg3 arg7 arg8 D 3 s <|
  agWait arg3 arg8 D 0 s <| agNext arg3 arg7 arg8 D 0 s <|
  agWait arg3 arg8 D 2 s <| agNext arg3 arg7 arg8 D 2 s <|
  agWait arg3 arg8 D 1 s <| agWait arg3 arg8 D 3 s k

/-- The rings' order of a hop's sends. -/
def rsDoneHop (s : Fin 15) (k : P F) : P F :=
  rsDone arg4 arg5 1 s <| rsDone arg4 arg5 3 s <|
  if h : s.val + 1 < 15 then rsDone arg4 arg5 0 ⟨s.val + 1, h⟩ <| rsDone arg4 arg5 2 ⟨s.val + 1, h⟩ k else k

def agDoneHop (D : Plan) (s : Fin 15) (k : P F) : P F :=
  agWait arg3 arg7 D 1 s <| agWait arg3 arg7 D 3 s <|
  if h : s.val + 1 < 15 then agWait arg3 arg7 D 0 ⟨s.val + 1, h⟩ <| agWait arg3 arg7 D 2 ⟨s.val + 1, h⟩ k else k

/-- Tell both neighbours that this device is ready, and wait until both are. -/
def barK (D : Plan) (k : P F) : P F :=
  .op (.semSignal (D.right, .tc) barS (1#32 : BitVec 32).toInt) fun _ =>
  .op (.semSignal (D.left, .tc) barS (1#32 : BitVec 32).toInt) fun _ =>
  .op (.semWait barS (2#32 : BitVec 32).toInt) fun _ => k

/-- The body after its three words are read. -/
def ringP (D : Plan) : P F :=
  iniK arg0 arg1 arg4 D 0 <| iniK arg0 arg1 arg4 D 1 <| iniK arg0 arg1 arg4 D 2 <| iniK arg0 arg1 arg4 D 3 <|
  barK D <|
  rsSend arg4 arg5 arg6 D 0 0 <| rsSend arg4 arg5 arg6 D 2 0 <|
  upTo (rsHop arg0 arg1 arg3 arg4 arg5 arg6 arg7 arg8 D) 15 le_rfl <|
  ownK arg3 arg4 D 1 <| ownK arg3 arg4 D 3 <|
  upTo (agHop arg3 arg7 arg8 D) 15 le_rfl <|
  rsDone arg4 arg5 0 0 <| rsDone arg4 arg5 2 0 <| upTo (rsDoneHop arg4 arg5) 15 le_rfl <|
  agWait arg3 arg7 D 0 0 <| agWait arg3 arg7 D 2 0 <| upTo (agDoneHop arg3 arg7 D) 15 le_rfl <|
  .ret PUnit.unit

/-- Read one word. -/
def wordK (i : Fin 1 → Nat) (h : ∀ a, i a + S1.size a ≤ S3.size a) (k : BitVec 32 → P F) : P F :=
  smemLoadElt arg2 (Rect.unit (s := S3) i S1.size h) (View.loads_smem_one rfl numel1_S1)
    (Shape.Idx.first (numel1_S1.symm ▸ Nat.one_pos)) k

/-- The whole body. -/
def ringBody : P F :=
  wordK arg2 ![0] inb_S3_S1_0 fun v0 => .op (.assume (k0_chk1 v0) (k0_chk1.dec v0)) fun h1 =>
  wordK arg2 ![1] inb_S3_S1_1 fun v1 => .op (.assume (k0_chk2 v1) (k0_chk2.dec v1)) fun h2 =>
  wordK arg2 ![2] inb_S3_S1_2 fun v2 => .op (.assume (k0_chk3 v2) (k0_chk3.dec v2)) fun h3 =>
  ringP arg0 arg1 arg3 arg4 arg5 arg6 arg7 arg8 (planOf v0 h1.down v1 h2.down v2 h3.down)

variable (h0 : arg0.IsWhole) (h1 : arg1.IsWhole) (h2 : arg2.IsWhole) (h3 : arg3.IsWhole) (h4 : arg4.IsWhole)

/-- The printed body is that program. -/
theorem body_eq : cc0_body (F := F) arg0 h0 arg1 h1 arg2 h2 arg3 h3 arg4 h4 arg5 arg6 arg7 arg8
    = ringBody arg0 arg1 arg2 arg3 arg4 arg5 arg6 arg7 arg8 := by
  sl_kernel_rfl

end Cert.Ring
-- ==== Proof.Mesh.lean ====
/- The two rings of sixteen devices, and what each device's three words say: where a device stands on
   its ring, who comes next, and which rows each step handles, in closed form. -/
module

public import proofs.«01_k».proof.Proof.Prog
public import Idealize.ShloMosaic.Lib.Decide

@[expose] public section

noncomputable section

namespace Cert.Ring

open Cert.KernelIdeal
open Idealize.ShloMosaic Idealize.SL.Sem
open Cert.KernelIdeal.Facts₀ Cert.KernelIdeal.Facts

/-! ## Positions and neighbours -/

/-- Where a device stands on the cycle of sixteen. -/
def pos : Dev nD → Fin 16 := ![0, 1, 8, 9, 15, 2, 7, 10, 14, 3, 6, 11, 13, 4, 5, 12]

/-- The device after this one on the cycle. -/
def nxt : Dev nD → Dev nD := ![1, 5, 3, 7, 0, 9, 2, 11, 4, 13, 6, 15, 8, 14, 10, 12]

/-- The device before this one on the cycle. -/
def prv : Dev nD → Dev nD := ![4, 0, 6, 2, 8, 1, 10, 3, 12, 5, 14, 7, 15, 9, 13, 11]

/-- Position on ring `r`: rings 2 and 3 run the other way. -/
def rp (r : Fin 4) (c : Dev nD) : Fin 16 := if r.val < 2 then pos c else - pos c

/-- The device that ring `r` sends to. -/
def tgt (r : Fin 4) (c : Dev nD) : Dev nD := if r.val < 2 then nxt c else prv c

/-- The device that ring `r` receives from. -/
def src (r : Fin 4) (c : Dev nD) : Dev nD := if r.val < 2 then prv c else nxt c

theorem tgt_src (r : Fin 4) (c : Dev nD) : tgt r (src r c) = c := by revert r c; decide
theorem src_tgt (r : Fin 4) (c : Dev nD) : src r (tgt r c) = c := by revert r c; decide
theorem tgt_ne (r : Fin 4) (c : Dev nD) : tgt r c ≠ c := by revert r c; decide
theorem rp_tgt (r : Fin 4) (c : Dev nD) : rp r (tgt r c) = rp r c + 1 := by revert r c; decide
theorem rp_src (r : Fin 4) (c : Dev nD) : rp r (src r c) = rp r c - 1 := by revert r c; decide
theorem rp_injective (r : Fin 4) : Function.Injective (rp r) := by revert r; decide
theorem rp_surjective (r : Fin 4) : Function.Surjective (rp r) := by revert r; decide

/-- The device at position `k` of ring `r`. -/
def dv (r : Fin 4) (k : Fin 16) : Dev nD := Function.surjInv (rp_surjective r) k
theorem rp_dv (r : Fin 4) (k : Fin 16) : rp r (dv r k) = k := Function.surjInv_eq (rp_surjective r) k
theorem dv_rp (r : Fin 4) (c : Dev nD) : dv r (rp r c) = c := rp_injective r (rp_dv r _)

/-- Position `k` of ring `r`, as a reordering of the devices. -/
def rpEquiv (r : Fin 4) : Dev nD ≃ Fin 16 := ⟨rp r, dv r, dv_rp r, rp_dv r⟩

/-- The neighbour of ring `r`, as a reordering of the devices. -/
def tgtEquiv (r : Fin 4) : Dev nD ≃ Dev nD := ⟨tgt r, src r, src_tgt r, tgt_src r⟩

/-! ## The words -/

/-- A device's three words. -/
def word0 (c : Dev nD) : BitVec 32 := BitVec.ofNat 32 (pos c).val
def word1 (c : Dev nD) : BitVec 32 := BitVec.ofNat 32 (nxt c).val
def word2 (c : Dev nD) : BitVec 32 := BitVec.ofNat 32 (prv c).val

theorem chk1 (c : Dev nD) : k0_chk1 (word0 c) := by revert c; decide +kernel
theorem chk2 (c : Dev nD) : k0_chk2 (word1 c) := by revert c; decide +kernel
theorem chk3 (c : Dev nD) : k0_chk3 (word2 c) := by revert c; decide +kernel

/-! ## The plan in closed form -/

/-- First row of chunk `k` of ring `r`. -/
def row (r : Fin 4) (k : Fin 16) : Nat := 512 * r.val + 32 * k.val

theorem row_le (r : Fin 4) (k : Fin 16) : row r k + 32 ≤ 2048 := by
  have := r.isLt; have := k.isLt; unfold row; omega

/-- The chunk that ring `r` sums at device `c` after `j` hops. -/
def inC (r : Fin 4) (c : Dev nD) (j : Fin 16) : Fin 16 := rp r c - j
/-- The chunk that device `c` holds finished after `j` hops of the gathering: at 0 its own. -/
def agC (r : Fin 4) (c : Dev nD) (j : Fin 16) : Fin 16 := rp r c + 1 - j

/-- The sum that ends at a device is of the chunk that it finishes. -/
theorem inC_last (r : Fin 4) (c : Dev nD) : inC r c 15 = agC r c 0 := by revert r c; decide
/-- What a device sums next is what the one before it on the ring summed. -/
theorem inC_src (r : Fin 4) (c : Dev nD) (s : Fin 15) : inC r (src r c) s.castSucc = inC r c s.succ := by
  revert r c s; decide +kernel
/-- What leaves a device is what the next one holds a hop later. -/
theorem agC_tgt (r : Fin 4) (c : Dev nD) (s : Fin 15) : agC r (tgt r c) s.succ = agC r c s.castSucc := by
  revert r c s; decide +kernel
theorem agC_src (r : Fin 4) (c : Dev nD) (s : Fin 15) : agC r (src r c) s.castSucc = agC r c s.succ := by
  revert r c s; decide +kernel
theorem agC_injective (r : Fin 4) (c : Dev nD) : Function.Injective (agC r c) := by revert r c; decide +kernel

theorem x_inb (r : Fin 4) (k : Fin 16) (a : Fin 2) : (![row r k, 0] : Fin 2 → Nat) a + S32x128.size a ≤ S2048x128.size a := by
  have := row_le r k; fin_cases a <;> simp [Shape.size] <;> omega

theorem out_inb (r : Fin 4) (k : Fin 16) (a : Fin 2) : (![row r k, 0] : Fin 2 → Nat) a + S32x2048.size a ≤ S2048x2048.size a := by
  have := row_le r k; fin_cases a <;> simp [Shape.size] <;> omega

/-- What device `c` does, in closed form. -/
def ringPlan (c : Dev nD) : Plan where
  ini r := ![row r (inC r c 0), 0]
  ini_inb r := x_inb r _
  mul r s := ![row r (inC r c s.succ), 0]
  mul_inb r s := x_inb r _
  own r := ![row r (agC r c 0), 0]
  own_inb r := out_inb r _
  ag r s := ![row r (agC r c s.castSucc), 0]
  ag_inb r s := out_inb r _
  right := nxt c
  left := prv c

theorem ini_eq (c : Dev nD) (r : Fin 4) :
    (if r.val < 2 then k0_off1 (word0 c) (BitVec.ofNat 32 (512 * r.val)) else k0_off2 (word0 c) (BitVec.ofNat 32 (512 * r.val)))
      = ![row r (inC r c 0), 0] := by
  revert c r; decide +kernel

theorem mul_eq (c : Dev nD) (r : Fin 4) (s : Fin 15) :
    (if r.val < 2 then k0_off3 (word0 c) (BitVec.ofNat 32 (512 * r.val)) (BitVec.ofNat 32 s.val)
      else k0_off4 (word0 c) (BitVec.ofNat 32 (512 * r.val)) (BitVec.ofNat 32 s.val))
      = ![row r (inC r c s.succ), 0] := by
  revert c r s; decide +kernel

theorem own_eq (c : Dev nD) (r : Fin 4) :
    (if r.val < 2 then k0_off5 (word0 c) (BitVec.ofNat 32 (512 * r.val)) else k0_off7 (word0 c) (BitVec.ofNat 32 (512 * r.val)))
      = ![row r (agC r c 0), 0] := by
  revert c r; decide +kernel

theorem ag_eq (c : Dev nD) (r : Fin 4) (s : Fin 15) :
    (if r.val < 2 then k0_off6 (word0 c) (BitVec.ofNat 32 (512 * r.val)) (BitVec.ofNat 32 s.val)
      else k0_off8 (word0 c) (BitVec.ofNat 32 (512 * r.val)) (BitVec.ofNat 32 s.val))
      = ![row r (agC r c s.castSucc), 0] := by
  revert c r s; decide +kernel

theorem right_eq (c : Dev nD) : k0_dev1 (word1 c) = (nxt c).val := by revert c; decide +kernel
theorem left_eq (c : Dev nD) : k0_dev2 (word2 c) = (prv c).val := by revert c; decide +kernel

/-- The plan that device `c`'s words give is the closed form. -/
theorem planOf_eq [Facts] (c : Dev nD) (h1 : k0_chk1 (word0 c)) (h2 : k0_chk2 (word1 c)) (h3 : k0_chk3 (word2 c)) :
    planOf (word0 c) h1 (word1 c) h2 (word2 c) h3 = ringPlan c := by
  have e1 := funext (ini_eq c)
  have e2 := funext fun r => funext (mul_eq c r)
  have e3 := funext (own_eq c)
  have e4 := funext fun r => funext (ag_eq c r)
  unfold planOf ringPlan
  congr 1
  · exact Fin.ext (right_eq c)
  · exact Fin.ext (left_eq c)

theorem tgt_ringPlan (r : Fin 4) (c : Dev nD) : (ringPlan c).tgt r = tgt r c := rfl

end Cert.Ring
-- ==== Proof.Views.lean ====
/- The buffers of the kernel and their pieces: the 64 slots of the travelling buffer, the 64 chunks of the
   result, what a read or a write of one piece does, and the whole buffers taken apart and put together. -/
module

public import proofs.«01_k».proof.Proof.Mesh
public import Idealize.ShloMosaic.Lib.Pipeline.Kit
public import Idealize.ShloMosaic.Lib.Memref
public import Idealize.ShloMosaic.Lib.Pipeline.Value
public import Idealize.ShloMosaic.Lib.Rounds
public import Idealize.ShloMosaic.Lib.ViewIndex
public import Idealize.ShloMosaic.Lib.Pipeline.Regions

@[expose] public section

noncomputable section

namespace Cert.Ring

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Facts]

/-- The ghost state: the pipeline's beside the rings'. -/
abbrev UU : Type := UR sig nD τ × URounds (GSem nD τ sig) Bool

local notation "𝕄" => MT nD τ sig Unit (Elt F) ℕ UU ℕ

abbrev xM : Memref sig .tc .vmem S2048x128 .f32 := Memref.whole cc0_stg0_0
abbrev wM : Memref sig .tc .vmem S128x2048 .f32 := Memref.whole cc0_stg1_0
abbrev metaM : Memref sig .tc .smem S3 .i32 := Memref.whole cc0_stg2_0
abbrev outM : Memref sig .tc .vmem S2048x2048 .f32 := Memref.whole cc0_stg3_0
abbrev comM : Memref sig .tc .vmem S4x16x32x2048 .f32 := Memref.whole cc0_scratch0

/-- Slot `j` of ring `r`. -/
abbrev slot (r : Fin 4) (j : Fin 16) : Memref sig .tc .vmem S32x2048 .f32 := slotV comM r j
/-- Chunk `k` of ring `r` in the result. -/
abbrev outV (r : Fin 4) (k : Fin 16) : Memref sig .tc .vmem S32x2048 .f32 := rowsV outM ![row r k, 0] (out_inb r k)
abbrev outR (r : Fin 4) (k : Fin 16) : Rect S2048x2048 := rowsR ![row r k, 0] (out_inb r k)

/-- What one transfer of a chunk credits. -/
abbrev N : ℕ := (slot 0 0).view.dmaCredit
theorem N_pos : 0 < N := View.dmaCredit_pos _ (by decide)
theorem credit_slot (r : Fin 4) (j : Fin 16) : (slot r j).view.dmaCredit = N := rfl
theorem credit_out (r : Fin 4) (k : Fin 16) : (outV r k).view.dmaCredit = N := rfl

/-- A piece of a buffer held with contents not named. -/
def anyOf (c : Dev nD) (m : Memref sig .tc .vmem S32x2048 .f32) : sProp 𝕄 :=
  iprop(∃ f, (m.view.loc (c : Thread nD τ) ↦[m.view.set]{fullShare} f))

/-- A piece of a buffer held with contents `v`. -/
def holds (c : Dev nD) (m : Memref sig .tc .vmem S32x2048 .f32) (v : FVec F S32x2048 .f32) : sProp 𝕄 :=
  owns (c : Thread nD τ) m fullShare v

instance (c : Dev nD) (m : Memref sig .tc .vmem S32x2048 .f32) :
    BI.Storable (upEmb : UEmb _ 𝕄) (anyOf (F := F) c m) := by unfold anyOf; infer_instance
instance (c : Dev nD) (m : Memref sig .tc .vmem S32x2048 .f32) (v : FVec F S32x2048 .f32) :
    BI.Storable (upEmb : UEmb _ 𝕄) (holds c m v) := by unfold holds; infer_instance

theorem holds_any (c : Dev nD) (m : Memref sig .tc .vmem S32x2048 .f32) (v : FVec F S32x2048 .f32) :
    (holds c m v : sProp 𝕄) ⊢ anyOf c m := by
  unfold holds owns anyOf; iintro ⟨%f, -, H⟩; iexists f; iexact H

theorem slot_set (r : Fin 4) (j : Fin 16) : (slot r j).view.set = (comM.access (slotR r j)).set :=
  View.set_reshape _ _

theorem ofSlot_toSlot (v : FVec F S32x2048 .f32) : ofSlot (toSlot v) = v := shapeCast_shapeCast v _ _

/-- A slot rewritten holds the chunk written. -/
theorem slot_write (r : Fin 4) (j : Fin 16) (f) (v : FVec F S32x2048 .f32) :
    (slot r j).view.read (Elt F) ((comM.access (slotR r j)).write (Elt F) f (toSlot v) Finset.univ) = v := by
  have h : (slot r j).view.read (Elt F) ((comM.access (slotR r j)).write (Elt F) f (toSlot v) Finset.univ)
      = ofSlot ((comM.access (slotR r j)).read (Elt F) ((comM.access (slotR r j)).write (Elt F) f (toSlot v) Finset.univ)) := rfl
  rw [h, View.read_write_univ, ofSlot_toSlot]

/-! ## Whole buffers and their pieces -/

theorem slotR_disjoint (t t' : Fin 4 × Fin 16) (h : t ≠ t') : Disjoint (slotR t.1 t.2).set (slotR t'.1 t'.2).set := by
  by_cases h1 : t.1 = t'.1
  · have h2 : t.2.val ≠ t'.2.val := fun e => h (Prod.ext h1 (Fin.ext e))
    refine Rect.unit_disjoint 1 ?_
    simp [Shape.size]; omega
  · have h2 : t.1.val ≠ t'.1.val := fun e => h1 (Fin.ext e)
    refine Rect.unit_disjoint 0 ?_
    simp [Shape.size]; omega

theorem slotR_cover : (Finset.univ : Finset (Fin 4 × Fin 16)).biUnion (fun t => (slotR t.1 t.2).set) = Finset.univ := by
  refine Finset.eq_univ_iff_forall.mpr fun i => Finset.mem_biUnion.mpr ⟨(i 0, i 1), Finset.mem_univ _, ?_⟩
  refine Rect.mem_set_unit.mpr fun a => ?_
  have h2 := (i 2).isLt; have h3 := (i 3).isLt
  fin_cases a <;> simp [Shape.size] at * <;> omega

theorem outR_disjoint (t t' : Fin 4 × Fin 16) (h : t ≠ t') : Disjoint (outR t.1 t.2).set (outR t'.1 t'.2).set := by
  refine Rect.unit_disjoint 0 ?_
  have h2 : ¬(t.1.val = t'.1.val ∧ t.2.val = t'.2.val) := fun e => h (Prod.ext (Fin.ext e.1) (Fin.ext e.2))
  have := t.2.isLt; have := t'.2.isLt
  simp [Shape.size, row]; omega

/-- The ring of a row of the result, and its chunk. -/
def ringOf (i : S2048x2048.Idx) : Fin 4 := ⟨(i 0).val / 512, by have : (i 0).val < 2048 := (i 0).isLt; omega⟩
def chunkOf (i : S2048x2048.Idx) : Fin 16 := ⟨(i 0).val % 512 / 32, by omega⟩

theorem outR_cover : (Finset.univ : Finset (Fin 4 × Fin 16)).biUnion (fun t => (outR t.1 t.2).set) = Finset.univ := by
  refine Finset.eq_univ_iff_forall.mpr fun i => Finset.mem_biUnion.mpr ⟨(ringOf i, chunkOf i), Finset.mem_univ _, ?_⟩
  refine Rect.mem_set_unit.mpr fun a => ?_
  have h0 := (i 0).isLt; have h1 := (i 1).isLt
  fin_cases a <;> simp [Shape.size, row, ringOf, chunkOf] at * <;> omega

/-- The result put together from its 64 chunks. -/
def outOf {α : Type} (g : Fin 4 → Fin 16 → S32x2048.Idx → α) : S2048x2048.Idx → α :=
  fun i => g (ringOf i) (chunkOf i) (Fin.cons ⟨(i 0).val % 32, Nat.mod_lt _ (by decide)⟩ (Fin.cons (i 1) fun a => a.elim0))

theorem outOf_emb {α : Type} (g : Fin 4 → Fin 16 → S32x2048.Idx → α) (r : Fin 4) (k : Fin 16) (j : S32x2048.Idx) :
    outOf g ((outR r k).emb j) = g r k j := by
  have e0 : (((outR r k).emb j) 0).val = row r k + 1 * (j 0).val := rfl
  have e1 : (((outR r k).emb j) 1).val = 0 + 1 * (j 1).val := rfl
  have hj : (j 0).val < 32 := (j 0).isLt
  have hr := r.isLt; have hk := k.isLt
  unfold row at e0
  have hr' : ringOf ((outR r k).emb j) = r := Fin.ext (by show _ / 512 = _; rw [e0]; omega)
  have hk' : chunkOf ((outR r k).emb j) = k := Fin.ext (by show _ % 512 / 32 = _; rw [e0]; omega)
  unfold outOf
  rw [hr', hk']
  congr 1
  funext a
  fin_cases a
  · exact Fin.ext (by show _ % 32 = (j 0).val; rw [e0]; omega)
  · exact Fin.ext (by show (((outR r k).emb j) 1).val = (j 1).val; rw [e1]; omega)

theorem slice_any (c : Dev nD) (r : Fin 4) (j : Fin 16) (v : (slotR r j).shape.Idx → Elt F .f32) :
    (owns (c : Thread nD τ) (comM.slice (slotR r j) (fun _ => rfl)) fullShare v : sProp 𝕄) ⊢ anyOf (F := F) c (slot r j) := by
  unfold owns anyOf
  rw [slot_set]
  iintro ⟨%g, -, H⟩
  iexists g
  iexact H

/-- The travelling buffer is its 64 slots. -/
theorem com_split (c : Dev nD) :
    (iprop(∃ f : Buf (Elt F) ((c : Thread nD τ).loc cc0_scratch0), (((c : Thread nD τ).loc cc0_scratch0) ↦{fullShare} f)) : sProp 𝕄)
      ⊢ bigSep Finset.univ fun t : Fin 4 × Fin 16 => anyOf (F := F) c (slot t.1 t.2) := by
  have h (f : Buf (Elt F) ((c : Thread nD τ).loc cc0_scratch0)) :
      ((((c : Thread nD τ).loc cc0_scratch0) ↦{fullShare} f) : sProp 𝕄)
        ⊢ bigSep Finset.univ fun t : Fin 4 × Fin 16 => anyOf (F := F) c (slot t.1 t.2) := by
    rw [← owns_whole]
    refine (owns_rects (c : Thread nD τ) comM fullShare (fun t : Fin 4 × Fin 16 => slotR t.1 t.2) (fun _ _ => rfl)
      slotR_disjoint slotR_cover f).trans (bigSep_mono fun t _ => slice_any c t.1 t.2 _)
  iintro ⟨%f, H⟩
  iapply (h f) $$ H

theorem slot_disjoint (t t' : Fin 4 × Fin 16) (h : t ≠ t') : Disjoint (slot t.1 t.2).view.set (slot t'.1 t'.2).view.set := by
  rw [slot_set, slot_set, View.set_slice, View.set_slice]; exact (Finset.disjoint_map _).mpr (slotR_disjoint t t' h)

theorem com_join (c : Dev nD) :
    (bigSep Finset.univ fun t : Fin 4 × Fin 16 => anyOf (F := F) c (slot t.1 t.2))
      ⊢ (iprop(∃ f : Buf (Elt F) ((c : Thread nD τ).loc cc0_scratch0), (((c : Thread nD τ).loc cc0_scratch0) ↦{fullShare} f)) : sProp 𝕄) := by
  have hne : Nonempty (Buf (Elt F) ((c : Thread nD τ).loc cc0_scratch0)) := ⟨fun _ => Scalar.ofBits .f32 0#32⟩
  have hcov : (Finset.univ : Finset (Fin 4 × Fin 16)).biUnion (fun t => (slot t.1 t.2).view.set) = (Finset.univ : Finset (Idx ((c : Thread nD τ).loc cc0_scratch0))) := by
    refine Eq.trans ?_ slotR_cover
    refine congrArg _ (funext fun t => ?_)
    rw [slot_set]; exact View.set_slice_whole _ _
  refine (bigSep_exists_pi (Y := fun _ => Buf (Elt F) ((c : Thread nD τ).loc cc0_scratch0)) Finset.univ
    (fun (t : Fin 4 × Fin 16) f => (((c : Thread nD τ).loc cc0_scratch0) ↦[(slot t.1 t.2).view.set]{fullShare} f))).trans ?_
  iintro ⟨%fs, H⟩
  ihave H := (pointsTo_biUnion_join (Finset.univ : Finset (Fin 4 × Fin 16)) (fun t => (slot t.1 t.2).view.set) fs hne.some
    (fun t _ t' _ h => slot_disjoint t t' h)) $$ H
  icases H with ⟨%g, -, H⟩
  iexists g
  rw [hcov]; iexact H

/-- The result buffer is its 64 chunks. -/
theorem out_split (c : Dev nD) (f : Buf (Elt F) ((c : Thread nD τ).loc cc0_stg3_0)) :
    ((((c : Thread nD τ).loc cc0_stg3_0) ↦{fullShare} f) : sProp 𝕄)
      ⊢ bigSep Finset.univ fun t : Fin 4 × Fin 16 => anyOf (F := F) c (outV t.1 t.2) := by
  rw [← owns_whole]
  exact (owns_rects (c : Thread nD τ) outM fullShare (fun t : Fin 4 × Fin 16 => outR t.1 t.2) (fun _ _ => rfl)
    outR_disjoint outR_cover f).trans (bigSep_mono fun t _ => holds_any c (outV t.1 t.2) _)

theorem out_join (c : Dev nD) (g : Fin 4 → Fin 16 → FVec F S32x2048 .f32) :
    (bigSep Finset.univ fun t : Fin 4 × Fin 16 => holds c (outV t.1 t.2) (g t.1 t.2))
      ⊢ ((((c : Thread nD τ).loc cc0_stg3_0) ↦{fullShare} (outOf g : Buf (Elt F) ((c : Thread nD τ).loc cc0_stg3_0))) : sProp 𝕄) := by
  have hne : ∀ e, Nonempty (Elt F e) := fun e => ⟨Classical.choice inferInstance⟩
  rw [← owns_whole]
  have h2 := owns_of_rects (Ix := Unit) (Name := ℕ) (U := UU) (Lvl := ℕ) (c : Thread nD τ) outM fullShare
    (fun t : Fin 4 × Fin 16 => outR t.1 t.2) (fun _ _ => rfl) outR_disjoint outR_cover (outOf g : S2048x2048.Idx → Elt F .f32)
  refine BIBase.Entails.trans (bigSep_mono fun t _ => ?_) h2
  unfold holds
  exact Entails.of_eq (congrArg (owns (c : Thread nD τ) (outV t.1 t.2) fullShare) (funext fun j => (outOf_emb g t.1 t.2 j).symm))

end Cert.Ring
-- ==== Proof.Proto.lean ====
/- What the sixteen devices agree on: what each chunk holds after each hop, what every semaphore is paid
   with, in which order they may be waited for, and what a device still has to send. -/
module

public import proofs.«01_k».proof.Proof.Views

@[expose] public section

noncomputable section

namespace Cert.Ring

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Facts]

local notation "𝕄" => MT nD τ sig Unit (Elt F) ℕ UU ℕ

/-- The rings' part of the ghost state. -/
abbrev ER : Emb (URounds (GSem nD τ sig) Bool) (MT nD τ sig Unit (Elt F) ℕ UU ℕ) := embR

/-! ## Contents -/

section Contents

variable (x : Dev nD → Vec F S2048x128 .f32) (w : Dev nD → Vec F S128x2048 .f32)

/-- The rectangle of `x` of chunk `k` of ring `r`, and that of all of `w`. -/
abbrev xR (r : Fin 4) (k : Fin 16) : Rect S2048x128 := Rect.unit (s := S2048x128) ![row r k, 0] S32x128.size (x_inb r k)
abbrev wR : Rect S128x2048 := Rect.unit (s := S128x2048) ![0, 0] S128x2048.size inb_S128x2048_S128x2048_0_0

/-- Device `c`'s share of chunk `k` of ring `r`. -/
def prodC (c : Dev nD) (r : Fin 4) (k : Fin 16) : FVec F S32x2048 .f32 :=
  mmVal ((xM.access (xR r k)).read (Elt F) (x c)) ((wM.access wR).read (Elt F) (w c))

/-- The sum that ring `r` holds at device `c` after `j` hops. -/
def acc (r : Fin 4) : ℕ → Dev nD → FVec F S32x2048 .f32
  | 0, c => prodC x w c r (inC r c 0)
  | j + 1, c => addf (acc r j (src r c)) (prodC x w c r (inC r c (Fin.ofNat 16 (j + 1))))

theorem acc_succ (r : Fin 4) (s : Fin 15) (c : Dev nD) :
    acc x w r s.succ.val c = addf (acc x w r s.castSucc.val (src r c)) (prodC x w c r (inC r c s.succ)) := by
  have h : Fin.ofNat 16 (s.val + 1) = s.succ := Fin.ext (Nat.mod_eq_of_lt (by have := s.isLt; omega))
  show addf (acc x w r s.val (src r c)) (prodC x w c r (inC r c (Fin.ofNat 16 (s.val + 1)))) = _
  rw [h]; rfl

/-- The finished chunk `k` of ring `r`. -/
def fin (r : Fin 4) (k : Fin 16) : FVec F S32x2048 .f32 := reluVal (acc x w r 15 (dv r (k - 1)))

theorem fin_own (r : Fin 4) (c : Dev nD) : fin x w r (agC r c 0) = reluVal (acc x w r 15 c) := by
  have h : agC r c 0 - 1 = rp r c := by revert r c; decide
  unfold fin; rw [h, dv_rp]

/-! ## Cells -/

/-- The four arrays of semaphores: sends and arrivals of the summing, sends and arrivals of the gathering. -/
def scr : Fin 4 → DmaSems sig S4x15 := ![cc0_scratch1, cc0_scratch2, cc0_scratch3, cc0_scratch4]

abbrev dsem (k r : Fin 4) (s : Fin 15) : DmaSem sig := semAt (scr k) r s

theorem semAt_ix (q : DmaSems sig S4x15) (r : Fin 4) (s : Fin 15) :
    semAt q r s = q.ix (Fin.cons r (Fin.cons s fun a => a.elim0)) := by
  let j : S1x1.Idx := Shape.reshapeEquiv (squeezes_S1x1_S_ : S1x1.Squeezes S_).numel_eq fun i => i.elim0
  show q.ix ((Rect.unit (s := S4x15) ![r.val, s.val] S1x1.size (sem_inb r s)).emb j) = _
  refine congrArg q.ix (funext fun a => Fin.ext ?_)
  have h0 : (j 0).val < 1 := (j 0).isLt
  have h1 : (j 1).val < 1 := (j 1).isLt
  fin_cases a
  · show r.val + 1 * (j 0).val = r.val; omega
  · show s.val + 1 * (j 1).val = s.val; omega

theorem dsem_val (k r : Fin 4) (s : Fin 15) : (dsem k r s).val = 4 + (60 * k.val + (15 * r.val + s.val)) := by
  have h : ∀ i : S4x15.Idx, (S4x15.rowMajor i).val = (i 0).val * 15 + (i 1).val := fun i => Shape.rowMajor_val_two i
  have h2 := h (Fin.cons r (Fin.cons s fun a => a.elim0))
  replace h2 : _ = r.val * 15 + s.val := h2
  unfold dsem
  rw [semAt_ix]
  fin_cases k
  · refine Eq.trans (congrArg (4 + ·) h2) ?_; show 4 + (r.val * 15 + s.val) = 4 + (60 * 0 + (15 * r.val + s.val)); omega
  · refine Eq.trans (congrArg (64 + ·) h2) ?_; show 64 + (r.val * 15 + s.val) = 4 + (60 * 1 + (15 * r.val + s.val)); omega
  · refine Eq.trans (congrArg (124 + ·) h2) ?_; show 124 + (r.val * 15 + s.val) = 4 + (60 * 2 + (15 * r.val + s.val)); omega
  · refine Eq.trans (congrArg (184 + ·) h2) ?_; show 184 + (r.val * 15 + s.val) = 4 + (60 * 3 + (15 * r.val + s.val)); omega

/-- Which semaphore of which array a number stands for. -/
def dec (i : DmaSem sig) : Option (Fin 4 × Fin 4 × Fin 15) :=
  if 4 ≤ i.val then some (Fin.ofNat 4 ((i.val - 4) / 60), Fin.ofNat 4 ((i.val - 4) % 60 / 15), Fin.ofNat 15 ((i.val - 4) % 15))
  else none

theorem dec_dsem (k r : Fin 4) (s : Fin 15) : dec (dsem k r s) = some (k, r, s) := by
  have hk := k.isLt; have hr := r.isLt; have hs := s.isLt
  unfold dec
  rw [dsem_val, if_pos (by omega)]
  refine congrArg some (Prod.ext (Fin.ext ?_) (Prod.ext (Fin.ext ?_) (Fin.ext ?_)))
  · show (4 + (60 * k.val + (15 * r.val + s.val)) - 4) / 60 % 4 = k.val; omega
  · show (4 + (60 * k.val + (15 * r.val + s.val)) - 4) % 60 / 15 % 4 = r.val; omega
  · show (4 + (60 * k.val + (15 * r.val + s.val)) - 4) % 15 % 15 = s.val; omega

abbrev barCell (c : Dev nD) : GSem nD τ sig := ((c : Thread nD τ), .reg barS)
abbrev cell (k r : Fin 4) (s : Fin 15) (c : Dev nD) : GSem nD τ sig := ((c : Thread nD τ), .dma (dsem k r s))

/-! ## The schedule -/

/-- What a device hands to the one before it on ring `r`, at the barrier: where the chunks may land. -/
def landing (r : Fin 4) (e : Dev nD) : sProp 𝕄 :=
  bigSep Finset.univ fun s : Fin 15 =>
    iprop((anyOf (F := F) e (slot r s.succ) ∗ reached ER (cell 1 r s e) 0)
      ∗ (anyOf (F := F) e (outV r (agC r e s.succ)) ∗ reached ER (cell 3 r s e) 0))

/-- What the barrier of `c` is paid with: by the device after it (`false`), and by the one before it. -/
def barPay (c : Dev nD) : Bool → sProp 𝕄
  | false => iprop(landing 0 (nxt c) ∗ landing 1 (nxt c))
  | true => iprop(landing 2 (prv c) ∗ landing 3 (prv c))

/-- What a transfer brings: a send its source back, an arrival the chunk. -/
def dmaPay (k r : Fin 4) (s : Fin 15) (c : Dev nD) : sProp 𝕄 :=
  match k with
  | 0 => anyOf (F := F) c (slot r s.castSucc)
  | 1 => holds c (slot r s.succ) (acc x w r s.castSucc.val (src r c))
  | 2 => holds c (outV r (agC r c s.castSucc)) (fin x w r (agC r c s.castSucc))
  | 3 => holds c (outV r (agC r c s.succ)) (fin x w r (agC r c s.succ))

/-- One round on every semaphore: the barrier is paid twice, each of the others once. -/
def rd : Schedule (GSem nD τ sig) Bool 𝕄 where
  duties g R := if R = 0 ∧ g.1.2 = .tc then
      (match g.2 with
        | .reg b => if b = barS then Finset.univ else ∅
        | .dma i => if (dec i).isSome then {false} else ∅)
    else ∅
  unitless _ := False
  amount g _ _ := match g.2 with
    | .reg _ => 1
    | .dma _ => N
  payload g _ d := match g.2 with
    | .reg _ => barPay g.1.1 d
    | .dma i => match dec i with
      | some (k, r, s) => dmaPay x w k r s g.1.1
      | none => iprop(emp)
  amount_pos g _ _ _ := by
    rcases g with ⟨_, (b | i)⟩
    · exact Nat.one_pos
    · exact N_pos

instance landing_storable (r : Fin 4) (e : Dev nD) : BI.Storable (upEmb : UEmb _ 𝕄) (landing (F := F) r e) := by
  unfold landing; infer_instance

instance barPay_storable (c : Dev nD) (d : Bool) : BI.Storable (upEmb : UEmb _ 𝕄) (barPay (F := F) c d) := by
  cases d <;> (unfold barPay; infer_instance)

instance dmaPay_storable (k r : Fin 4) (s : Fin 15) (c : Dev nD) :
    BI.Storable (upEmb : UEmb _ 𝕄) (dmaPay x w k r s c) := by
  unfold dmaPay; split <;> infer_instance

instance rd_storable (g : GSem nD τ sig) (R : ℕ) (d : Bool) :
    BI.Storable (upEmb : UEmb _ 𝕄) ((rd x w).payload g R d) := by
  rcases g with ⟨t, (b | i)⟩
  · exact barPay_storable t.1 d
  · show BI.Storable (upEmb : UEmb _ 𝕄) (match dec i with
      | some (k, r, s) => dmaPay x w k r s t.1
      | none => iprop(emp))
    split <;> infer_instance

theorem duties_bar (c : Dev nD) : (rd x w).duties (barCell c) 0 = Finset.univ := by
  dsimp only [rd]; rw [if_pos ⟨rfl, rfl⟩]; exact if_pos rfl
theorem duties_dma (k r : Fin 4) (s : Fin 15) (c : Dev nD) : (rd x w).duties (cell k r s c) 0 = {false} := by
  dsimp only [rd]; rw [if_pos ⟨rfl, rfl⟩]
  show (if (dec (dsem k r s)).isSome then {false} else ∅) = _
  rw [dec_dsem]; rfl
theorem duties_later (g : GSem nD τ sig) (R : ℕ) (h : 0 + 1 ≤ R) : (rd x w).duties g R = ∅ := by
  dsimp only [rd]; exact if_neg fun h' => by omega

theorem amount_bar (c : Dev nD) (d : Bool) : (rd x w).amount (barCell c) 0 d = 1 := rfl
theorem amount_dma (k r : Fin 4) (s : Fin 15) (c : Dev nD) (d : Bool) : (rd x w).amount (cell k r s c) 0 d = N := rfl

theorem payload_bar (c : Dev nD) (d : Bool) : (rd x w).payload (barCell c) 0 d = barPay c d := rfl
theorem payload_dma (k r : Fin 4) (s : Fin 15) (c : Dev nD) (d : Bool) :
    (rd x w).payload (cell k r s c) 0 d = dmaPay x w k r s c := by
  show (match dec (dsem k r s) with
      | some (k, r, s) => dmaPay x w k r s c
      | none => iprop(emp)) = _
  rw [dec_dsem]

theorem expect_bar (c : Dev nD) : (rd x w).expect (barCell c) 0 = 2 := by
  unfold Schedule.expect Schedule.amountOf; rw [duties_bar]; rfl
theorem expect_dma (k r : Fin 4) (s : Fin 15) (c : Dev nD) : (rd x w).expect (cell k r s c) 0 = N := by
  unfold Schedule.expect Schedule.amountOf; rw [duties_dma, Finset.sum_singleton, amount_dma]

theorem rest_bar (c : Dev nD) : bigSep ((rd x w).duties (barCell c) 0 \ ∅) (fun d => (rd x w).payload (barCell c) 0 d)
    = iprop(barPay (F := F) c false ∗ barPay c true) := by
  rw [Finset.sdiff_empty, duties_bar]
  have h : (Finset.univ : Finset Bool) = insert false {true} := by decide
  rw [h, bigSep_insert (by decide), bigSep_singleton, payload_bar, payload_bar]
  rfl
theorem rest_dma (k r : Fin 4) (s : Fin 15) (c : Dev nD) :
    bigSep ((rd x w).duties (cell k r s c) 0 \ ∅) (fun d => (rd x w).payload (cell k r s c) 0 d) = dmaPay x w k r s c := by
  rw [Finset.sdiff_empty, duties_dma, bigSep_singleton, payload_dma]

end Contents

/-! ## What is owed, and the order of waits -/

/-- The credit of an arrival on the next device of ring `r`. -/
abbrev tl (k r : Fin 4) (s : Fin 15) (c : Dev nD) : CellTallies nD τ sig Unit := tallyAt (cell k r s (tgt r c)) () N

/-- What device `c` owes when ring `r` has sent `p r` times: the arrivals of the later hops. -/
def Ow (c : Dev nD) (p : Fin 4 → ℕ) : CellTallies nD τ sig Unit :=
  ∑ r : Fin 4, ∑ s : Fin 15, ((if p r ≤ s.val then tl 1 r s c else 0) + (if p r ≤ 15 + s.val then tl 3 r s c else 0))

theorem sum_single {M : Type} [AddCommMonoid M] (f g : Fin 4 → Fin 15 → M) (m : M) (r : Fin 4) (s : Fin 15)
    (h : ∀ r' s', f r' s' = g r' s' + if r' = r ∧ s' = s then m else 0) :
    ∑ r', ∑ s', f r' s' = (∑ r', ∑ s', g r' s') + m := by
  simp only [h, Finset.sum_add_distrib]
  congr 1
  rw [Finset.sum_eq_single r, Finset.sum_eq_single s]
  · simp
  · intro b _ hb; simp [hb]
  · simp
  · intro b _ hb; simp [hb]
  · simp

/-- A send of the summing pays its hop. -/
theorem Ow_rs (c : Dev nD) (p : Fin 4 → ℕ) (r : Fin 4) (s : Fin 15) (h : p r = s.val) :
    Ow c p = Ow c (Function.update p r (s.val + 1)) + tl 1 r s c := by
  refine sum_single _ _ _ r s fun r' s' => ?_
  by_cases hr : r' = r
  · subst hr
    rw [Function.update_self, h]
    by_cases hs : s' = s
    · subst hs
      have := s'.isLt
      rw [if_pos (le_refl s'.val), if_neg (c := s'.val + 1 ≤ s'.val) (by omega), if_pos (c := s'.val ≤ 15 + s'.val) (by omega),
        if_pos (c := s'.val + 1 ≤ 15 + s'.val) (by omega), if_pos (c := r' = r' ∧ s' = s') ⟨rfl, rfl⟩, zero_add, add_comm]
    · have : s'.val ≠ s.val := fun e => hs (Fin.ext e)
      have e1 : (s.val ≤ s'.val) = (s.val + 1 ≤ s'.val) := propext ⟨fun _ => by omega, fun _ => by omega⟩
      have e2 : (s.val ≤ 15 + s'.val) = (s.val + 1 ≤ 15 + s'.val) := propext ⟨fun _ => by omega, fun _ => by omega⟩
      rw [if_neg (c := r' = r' ∧ s' = s) fun e => hs e.2, add_zero]
      simp only [e1, e2]
  · rw [if_neg (c := r' = r ∧ s' = s) fun e => hr e.1, add_zero, Function.update_of_ne hr]

/-- A send of the gathering pays its hop. -/
theorem Ow_ag (c : Dev nD) (p : Fin 4 → ℕ) (r : Fin 4) (s : Fin 15) (h : p r = 15 + s.val) :
    Ow c p = Ow c (Function.update p r (15 + s.val + 1)) + tl 3 r s c := by
  refine sum_single _ _ _ r s fun r' s' => ?_
  by_cases hr : r' = r
  · subst hr
    rw [Function.update_self, h]
    have h15 := s'.isLt
    have e1 : ¬(15 + s.val ≤ s'.val) := by omega
    have e1' : ¬(15 + s.val + 1 ≤ s'.val) := by omega
    by_cases hs : s' = s
    · subst hs
      rw [if_neg e1, if_neg e1', if_pos (le_refl (15 + s'.val)), if_neg (c := 15 + s'.val + 1 ≤ 15 + s'.val) (by omega),
        if_pos (c := r' = r' ∧ s' = s') ⟨rfl, rfl⟩, add_zero]
    · have : s'.val ≠ s.val := fun e => hs (Fin.ext e)
      have e2 : (15 + s.val ≤ 15 + s'.val) = (15 + s.val + 1 ≤ 15 + s'.val) := propext ⟨fun _ => by omega, fun _ => by omega⟩
      rw [if_neg e1, if_neg e1', if_neg (c := r' = r' ∧ s' = s) fun e => hs e.2, add_zero]
      simp only [e2]
  · rw [if_neg (c := r' = r ∧ s' = s) fun e => hr e.1, add_zero, Function.update_of_ne hr]

/-- With all sends done nothing is owed. -/
theorem Ow_done (c : Dev nD) (p : Fin 4 → ℕ) (h : ∀ r, p r = 30) : Ow c p = 0 := by
  unfold Ow
  refine Finset.sum_eq_zero fun r _ => Finset.sum_eq_zero fun s _ => ?_
  have := s.isLt
  rw [h r, if_neg (by omega), if_neg (by omega), add_zero]

theorem Ow_pos (c : Dev nD) (p : Fin 4 → ℕ) (g : GSem nD τ sig) (u : Unit) (h : 0 < Ow c p g u) :
    ∃ r s, (g = cell 1 r s (tgt r c) ∧ p r ≤ s.val) ∨ (g = cell 3 r s (tgt r c) ∧ p r ≤ 15 + s.val) := by
  by_contra hn
  refine absurd h (Nat.not_lt.mpr (Nat.le_of_eq ?_))
  let φ : CellTallies nD τ sig Unit →+ ℕ := ⟨⟨fun T => T g u, rfl⟩, fun _ _ => rfl⟩
  show φ (Ow c p) = 0
  unfold Ow
  rw [map_sum]
  refine Finset.sum_eq_zero fun r _ => ?_
  rw [map_sum]
  refine Finset.sum_eq_zero fun s _ => ?_
  have e1 : (if p r ≤ s.val then tl 1 r s c else 0) g u = 0 := by
    by_cases hp : p r ≤ s.val
    · rw [if_pos hp, tallyAt_apply, if_neg fun e => hn ⟨r, s, .inl ⟨e.1, hp⟩⟩]
    · rw [if_neg hp]; rfl
  have e2 : (if p r ≤ 15 + s.val then tl 3 r s c else 0) g u = 0 := by
    by_cases hp : p r ≤ 15 + s.val
    · rw [if_pos hp, tallyAt_apply, if_neg fun e => hn ⟨r, s, .inr ⟨e.1, hp⟩⟩]
    · rw [if_neg hp]; rfl
  show (if p r ≤ s.val then tl 1 r s c else 0) g u + (if p r ≤ 15 + s.val then tl 3 r s c else 0) g u = 0
  rw [e1, e2]

/-- The waits' order: the barrier, then the hops of the summing, then those of the gathering. -/
def lv (g : GSem nD τ sig) (_ : Unit) : ℕ := match g.2 with
  | .reg _ => 1
  | .dma i => match dec i with
    | some (k, _, s) => if k = 1 then 2 + s.val else if k = 3 then 17 + s.val else 0
    | none => 0

def L (g : GSem nD τ sig) : Finset Unit := if g.1.2 = .tc then {()} else ∅

theorem L_tc (c : Dev nD) (sm : SemLoc sig) : L ((c : Thread nD τ), sm) = {()} := if_pos rfl
theorem lv_dma (k r : Fin 4) (s : Fin 15) (c : Dev nD) :
    lv (cell k r s c) () = if k = 1 then 2 + s.val else if k = 3 then 17 + s.val else 0 := by
  show (match dec (dsem k r s) with
    | some (k, _, s) => if k = 1 then 2 + s.val else if k = 3 then 17 + s.val else 0
    | none => 0) = _
  rw [dec_dsem]

/-- A wait is allowed when all that is still owed comes later. -/
theorem mayWait (c : Dev nD) (sm : SemLoc sig) (p : Fin 4 → ℕ) (h : ∀ r, lv ((c : Thread nD τ), sm) () < 2 + p r) :
    (levAts L lv : sProp 𝕄) ⊢ MayWait (c : Thread nD τ) sm () (Ow c p) := by
  refine MayOwe.of_cut (L := L) (lev := lv) (lv ((c : Thread nD τ), sm) ()) (fun q hq => by rw [Finset.mem_singleton.mp hq, L_tc]; exact Finset.mem_singleton_self _)
    (fun g u hg => ?_) (fun q hq => by rw [Finset.mem_singleton.mp hq]) (fun g u hg => ?_)
  · obtain ⟨r, s, ⟨rfl, -⟩ | ⟨rfl, -⟩⟩ := Ow_pos c p g u hg <;> (rw [L_tc]; exact Finset.mem_singleton_self _)
  · obtain ⟨r, s, ⟨rfl, hp⟩ | ⟨rfl, hp⟩⟩ := Ow_pos c p g u hg
    · have := h r; rw [lv_dma, if_pos rfl]; omega
    · have := h r; rw [lv_dma, if_neg (by decide), if_pos rfl]; omega

end Cert.Ring
-- ==== Proof.Steps.lean ====
/- One operation of the program at a time: what each step of the rings takes and what it leaves. -/
module

public import proofs.«01_k».proof.Proof.Proto

@[expose] public section

noncomputable section

namespace Cert.Ring

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Facts]

local notation "𝕄" => MT nD τ sig Unit (Elt F) ℕ UU ℕ

/-- Device `c` runs `k`, and `Q` holds at its end. -/
abbrev run (c : Dev nD) (k : P F) (Q : PUnit → sProp 𝕄) : sProp 𝕄 :=
  wp frame (wpE (defs₀ (F := F)) Variants.none (c : Thread nD τ) none) Set.univ k Q

variable (x : Dev nD → Vec F S2048x128 .f32) (w : Dev nD → Vec F S128x2048 .f32)
variable (K : GSem nD τ sig → ℕ) (c : Dev nD)

/-! ## Loads and stores -/

/-- The two operands of `c`. -/
def xw : sProp 𝕄 :=
  iprop((((c : Thread nD τ).loc cc0_stg0_0) ↦{fullShare} (x c : Buf (Elt F) ((c : Thread nD τ).loc cc0_stg0_0)))
    ∗ (((c : Thread nD τ).loc cc0_stg1_0) ↦{fullShare} (w c : Buf (Elt F) ((c : Thread nD τ).loc cc0_stg1_0))))

theorem any_elim (m : Memref sig .tc .vmem S32x2048 .f32) :
    (anyOf c m : sProp 𝕄) ⊢ iprop(∃ f, (m.view.loc (c : Thread nD τ) ↦[m.view.set]{fullShare} f)) := by
  unfold anyOf; iintro H; iexact H

/-- A product of rows of `x` with `w`. -/
theorem mm_step (Q : PUnit → sProp 𝕄) (r : Fin 4) (k : Fin 16) (kk : FVec F S32x2048 .f32 → P F) :
    iprop(xw x w c ∗ (xw x w c -∗ run c (kk (prodC x w c r k)) Q))
      ⊢ run c (mmK xM wM ![row r k, 0] (x_inb r k) kk) Q := by
  unfold mmK xw
  iintro ⟨⟨Hx, Hw⟩, Hk⟩
  iapply (wp_load_rect Variants.none (c : Thread nD τ) none Set.univ (m := xM) (r := xR r k) (S := Finset.univ) (f := x c) (Finset.subset_univ _)) $$ [Hx]
  · iexact Hx
  iintro Hx
  iapply (wp_load_rect Variants.none (c : Thread nD τ) none Set.univ (m := wM) (r := wR) (S := Finset.univ) (f := w c) (Finset.subset_univ _)) $$ [Hw]
  · iexact Hw
  iintro Hw
  iapply Hk
  isplitl [Hx]; · iexact Hx
  iexact Hw

theorem slotLd_holds (Q : PUnit → sProp 𝕄) (r : Fin 4) (j : Fin 16) (v : FVec F S32x2048 .f32) (k : Vec F S1x1x32x2048 .f32 → P F) :
    iprop(holds c (slot r j) v ∗ (∀ a, ⌜ofSlot a = v⌝ -∗ holds c (slot r j) v -∗ run c (k a) Q))
      ⊢ run c (slotLd comM r j k) Q := by
  unfold slotLd holds owns
  iintro ⟨⟨%f, %hf, H⟩, Hk⟩
  rw [slot_set]
  iapply (wp_load_rect Variants.none (c : Thread nD τ) none Set.univ (m := comM) (r := slotR r j)
    (S := (comM.access (slotR r j)).set) (f := f) (Finset.Subset.refl _)) $$ [H]
  · iexact H
  iintro H
  iapply Hk $$ %((comM.access (slotR r j)).read (Elt F) f) [] [H]
  · ipureintro; exact hf
  · iexists f
    isplitr; · ipureintro; exact hf
    iexact H

theorem slotLd_any (Q : PUnit → sProp 𝕄) (r : Fin 4) (j : Fin 16) (k : Vec F S1x1x32x2048 .f32 → P F) :
    iprop(anyOf (F := F) c (slot r j) ∗ (∀ a, anyOf (F := F) c (slot r j) -∗ run c (k a) Q))
      ⊢ run c (slotLd comM r j k) Q := by
  unfold slotLd anyOf
  iintro ⟨⟨%f, H⟩, Hk⟩
  rw [slot_set]
  iapply (wp_load_rect Variants.none (c : Thread nD τ) none Set.univ (m := comM) (r := slotR r j)
    (S := (comM.access (slotR r j)).set) (f := f) (Finset.Subset.refl _)) $$ [H]
  · iexact H
  iintro H
  iapply Hk $$ %((comM.access (slotR r j)).read (Elt F) f) [H]
  · iexists f
    iexact H

theorem slotSt_any (Q : PUnit → sProp 𝕄) (r : Fin 4) (j : Fin 16) (v : FVec F S32x2048 .f32) (k : P F) :
    iprop(anyOf (F := F) c (slot r j) ∗ (holds c (slot r j) v -∗ run c k Q))
      ⊢ run c (slotSt comM r j (toSlot v) k) Q := by
  unfold slotSt anyOf holds owns
  iintro ⟨⟨%f, H⟩, Hk⟩
  rw [slot_set]
  iapply (wp_store Variants.none (c : Thread nD τ) none Set.univ (m := comM) (r := slotR r j) (w := toSlot v) (Mk := Finset.univ)
    (S := (comM.access (slotR r j)).set) (f := f) (Finset.Subset.refl _)) $$ [H]
  · iexact H
  iintro H
  iapply Hk
  iexists _
  isplitr
  · ipureintro; exact slot_write r j f v
  · iexact H

/-- Adding to a slot. -/
theorem acc_step (Q : PUnit → sProp 𝕄) (r : Fin 4) (j : Fin 16) (v u : FVec F S32x2048 .f32) (k : P F) :
    iprop(holds c (slot r j) v ∗ (holds c (slot r j) (addf v u) -∗ run c k Q))
      ⊢ run c (accK comM r j u k) Q := by
  unfold accK
  iintro ⟨H, Hk⟩
  iapply (slotLd_holds c Q r j v)
  isplitl [H]; · iexact H
  iintro %a %ha H
  subst ha
  iapply (slotLd_holds c Q r j (ofSlot a))
  isplitl [H]; · iexact H
  iintro %b - H
  iapply (slotSt_any c Q r j)
  isplitl [H]; · iapply (holds_any c (slot r j) _) $$ H
  iexact Hk

/-- The first chunk of a ring. -/
theorem ini_step (Q : PUnit → sProp 𝕄) (r : Fin 4) (k : P F) :
    iprop(xw x w c ∗ anyOf (F := F) c (slot r 0) ∗ ((xw x w c ∗ holds c (slot r 0) (acc x w r 0 c)) -∗ run c k Q))
      ⊢ run c (iniK xM wM comM (ringPlan c) r k) Q := by
  unfold iniK
  iintro ⟨Hx, H, Hk⟩
  iapply (mm_step x w c Q r (inC r c 0))
  isplitl [Hx]; · iexact Hx
  iintro Hx
  iapply (slotLd_any c Q r 0)
  isplitl [H]; · iexact H
  iintro %a H
  iapply (slotSt_any c Q r 0)
  isplitl [H]; · iexact H
  iintro H
  iapply Hk
  isplitl [Hx]; · iexact Hx
  iexact H

/-- The finished chunk of a ring goes to the result. -/
theorem own_step (Q : PUnit → sProp 𝕄) (r : Fin 4) (k : P F) :
    iprop(holds c (slot r 15) (acc x w r 15 c) ∗ anyOf (F := F) c (outV r (agC r c 0))
      ∗ ((anyOf (F := F) c (slot r 15) ∗ holds c (outV r (agC r c 0)) (fin x w r (agC r c 0))) -∗ run c k Q))
      ⊢ run c (ownK outM comM (ringPlan c) r k) Q := by
  unfold ownK
  iintro ⟨H, Ho, Hk⟩
  iapply (slotLd_holds c Q r 15)
  isplitl [H]; · iexact H
  iintro %a %ha H
  ihave Ho := (any_elim c (outV r (agC r c 0))) $$ Ho
  icases Ho with ⟨%f, Ho⟩
  iapply (wp_load_rect Variants.none (c : Thread nD τ) none Set.univ (m := outM) (r := outR r (agC r c 0))
    (S := (outV r (agC r c 0)).view.set) (f := f) (Finset.Subset.refl _)) $$ [Ho]
  · iexact Ho
  iintro Ho
  iapply (wp_store Variants.none (c : Thread nD τ) none Set.univ (m := outM) (r := outR r (agC r c 0)) (w := reluVal (ofSlot a)) (Mk := Finset.univ)
    (S := (outV r (agC r c 0)).view.set) (f := f) (Finset.Subset.refl _)) $$ [Ho]
  · iexact Ho
  iintro Ho
  iapply Hk
  isplitl [H]; · iapply (holds_any c (slot r 15) _) $$ H
  unfold holds owns
  iexists ((outM.access (outR r (agC r c 0))).write (Elt F) f (reluVal (ofSlot a)) Finset.univ)
  isplitr
  · ipureintro; rw [fin_own, ← ha]; exact View.read_write_univ _ _
  · iexact Ho

/-! ## The invariants -/

/-- Every semaphore's invariant. -/
def invs : sProp 𝕄 :=
  iprop((bigSep Finset.univ fun d : Dev nD => cellInv ER (rd x w) (K (barCell d)) (barCell d))
    ∗ bigSep Finset.univ fun t : Fin 4 × Fin 4 × Fin 15 × Dev nD =>
        cellInv ER (rd x w) (K (cell t.1 t.2.1 t.2.2.1 t.2.2.2)) (cell t.1 t.2.1 t.2.2.1 t.2.2.2))

instance : BI.Persistent (invs x w K) := by unfold invs; infer_instance

theorem inv_bar (d : Dev nD) : invs x w K ⊢ cellInv ER (rd x w) (K (barCell d)) (barCell d) := by
  unfold invs
  exact sep_elim_left.trans (bigSep_elim (Finset.mem_univ d))
theorem inv_dma (k r : Fin 4) (s : Fin 15) (d : Dev nD) :
    invs x w K ⊢ cellInv ER (rd x w) (K (cell k r s d)) (cell k r s d) := by
  unfold invs
  exact sep_elim_right.trans (bigSep_elim (Φ := fun t : Fin 4 × Fin 4 × Fin 15 × Dev nD =>
        cellInv ER (rd x w) (K (cell t.1 t.2.1 t.2.2.1 t.2.2.2)) (cell t.1 t.2.1 t.2.2.1 t.2.2.2)) (Finset.mem_univ (k, r, s, d)))

/-- What `c` owes when ring `r` has sent `p r` times. -/
def ow (p : Fin 4 → ℕ) : sProp 𝕄 := iprop(∃ W, owes (c : Thread nD τ) (Ow c p) W)

/-! ## Waits -/

/-- A wait for one of the transfers: what it brings is had. -/
theorem wait_step (Q : PUnit → sProp 𝕄) (k r : Fin 4) (s : Fin 15) (p : Fin 4 → ℕ) (hp : ∀ r', lv (cell k r s c) () < 2 + p r')
    (src dst : Memref sig .tc .vmem S32x2048 .f32) (h1 : src.view.WordExact) (h2 : dst.view.WordExact)
    (hN : dst.view.dmaCredit = N) (kk : PUnit → P F) :
    iprop(invs x w K ∗ levAts L lv ∗ cred (tallyAt (cell k r s c) () N) ∗ atPos ER (cell k r s c) 0 ∅ 0 ∗ ow c p
      ∗ ((ow c p ∗ atPos ER (cell k r s c) (0 + 1) ∅ 0 ∗ dmaPay x w k r s c) -∗ run c (kk ⟨⟩) Q))
      ⊢ run c (.op (.waitDma2 (dsem k r s) src dst h1 h2) kk) Q := by
  unfold ow
  iintro ⟨#HI, #Hlev, Hc, Hat, ⟨%W, HO⟩, Hk⟩
  iapply (Rounds.wp_wait_rest_token Variants.none ER (rd x w) (c : Thread nD τ) none (κ := K (cell k r s c))
      (wpE_waitDma2_eq Variants.none (c : Thread nD τ) none Set.univ) (Set.mem_univ _) () (O := Ow c p) (W := W) (R := 0) (m := 0) (T := ∅)
      ((Nat.zero_add _).trans (hN.trans (expect_dma x w k r s c).symm))) $$ [Hc HO Hat]
  · isplitr; · iapply (inv_dma x w K k r s c); iexact HI
    rw [hN]
    isplitl [Hc]; · iexact Hc
    isplitl [HO]; · iexact HO
    isplitr; · iapply (mayWait c (.dma (dsem k r s)) p hp); iexact Hlev
    iexact Hat
  iintro ⟨HO, Hat, -, Hpay⟩
  ihave Hpay := (Entails.of_eq (rest_dma x w k r s c)) $$ Hpay
  iapply Hk
  isplitl [HO]; · iexists _; iexact HO
  isplitl [Hat]; · iexact Hat
  iexact Hpay

end Cert.Ring
-- ==== Proof.Hops.lean ====
/- The state of a ring: which of its fifteen hops have been sent, received and finished, and how sends and
   waits move it on.  One state serves the summing (`false`) and the gathering (`true`). -/
module

public import proofs.«01_k».proof.Proof.Steps

@[expose] public section

noncomputable section

namespace Cert.Ring

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Facts]

local notation "𝕄" => MT nD τ sig Unit (Elt F) ℕ UU ℕ

variable (x : Dev nD → Vec F S2048x128 .f32) (w : Dev nD → Vec F S128x2048 .f32)
variable (K : GSem nD τ sig → ℕ) (c : Dev nD)

/-- A transfer to the next device of ring `r`. -/
theorem send_step (Q : PUnit → sProp 𝕄) (kS kR r : Fin 4) (s : Fin 15) (p p' : Fin 4 → ℕ)
    (hO : Ow c p = Ow c p' + tallyAt (cell kR r s (tgt r c)) () N)
    (src dst : Memref sig .tc .vmem S32x2048 .f32) (hsc : dst.view.ref.isScScratch = false)
    (h1 : src.view.WordExact) (h2 : dst.view.WordExact)
    (h3 : DmaTarget.Typed .vmem (.dma (dsem kR r s)) (.remote (Dev.tc (tgt r c)) dst (.dma (dsem kS r s)) hsc))
    (hN : dst.view.dmaCredit = N) (v : FVec F S32x2048 .f32)
    (hp1 : (holds c src v : sProp 𝕄) ⊢ dmaPay x w kS r s c)
    (hp2 : (holds (tgt r c) dst v : sProp 𝕄) ⊢ dmaPay x w kR r s (tgt r c)) (kk : PUnit → P F) :
    iprop(invs x w K ∗ holds c src v ∗ anyOf (F := F) (tgt r c) dst
      ∗ dutyTok ER (cell kS r s c) 0 false ∗ reached ER (cell kS r s c) 0
      ∗ dutyTok ER (cell kR r s (tgt r c)) 0 false ∗ reached ER (cell kR r s (tgt r c)) 0 ∗ ow c p
      ∗ ((cred (tallyAt (cell kS r s c) () N) ∗ ow c p') -∗ run c (kk ⟨⟩) Q))
      ⊢ run c (.op (.enqueueDma src (.remote (Dev.tc (tgt r c)) dst (.dma (dsem kS r s)) hsc)
          (.dma (dsem kR r s)) h1 h2 h3) kk) Q := by
  unfold ow
  iintro ⟨#HI, Hs, Hd, HtS, HrS, HtR, HrR, ⟨%W, HO⟩, Hk⟩
  ihave Hs := (show (holds c src v : sProp 𝕄) ⊢ iprop(∃ f, ⌜src.view.read (Elt F) f = v⌝ ∗ (src.view.loc (c : Thread nD τ) ↦[src.view.set]{fullShare} f)) from by
    unfold holds owns; iintro H; iexact H) $$ Hs
  icases Hs with ⟨%fs, %hf, Hs⟩
  ihave Hd := (any_elim (tgt r c) dst) $$ Hd
  icases Hd with ⟨%fd, Hd⟩
  iapply (Rounds.wp_send_pointsTo Variants.none ER (rd x w) (c : Thread nD τ) none (c' := (tgt r c : Thread nD τ)) (src := src) (dst := dst)
      (sS := .dma (dsem kS r s)) (sem := .dma (dsem kR r s)) (q := fullShare) (fs := fs) (fd := fd)
      (κ₁ := K (cell kS r s c)) (κ₂ := K (cell kR r s (tgt r c))) (r₁ := 0) (r₂ := 0) (d₁ := false) (d₂ := false)
      (by rw [duties_dma]; exact Finset.mem_singleton_self _) (by rw [duties_dma]; exact Finset.mem_singleton_self _)
      () () N hN (amount_dma x w kS r s c false) (amount_dma x w kR r s (tgt r c) false) (Ow c p') hO (W := W)
      (by
        rw [payload_dma]
        refine BIBase.Entails.trans ?_ hp1
        unfold holds owns
        iintro H; iexists fs; isplitr; · ipureintro; exact hf
        iexact H)
      (by
        rw [payload_dma]
        refine BIBase.Entails.trans ?_ hp2
        unfold holds owns
        iintro H; iexists _; isplitr; rotate_left; · iexact H
        ipureintro; rw [hf]; exact View.read_write_univ _ _)) $$ [Hs Hd HO HtS HrS HtR HrR]
  · isplitr; · iapply (inv_dma x w K kS r s c); iexact HI
    isplitr; · iapply (inv_dma x w K kR r s (tgt r c)); iexact HI
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨HcS, HO⟩
  iapply Hk
  isplitl [HcS]; · iexact HcS
  iexists W; iexact HO

/-! ## One hop -/

/-- The semaphores of the sends and of the arrivals. -/
abbrev kS : Bool → Fin 4 | false => 0 | true => 2
abbrev kR : Bool → Fin 4 | false => 1 | true => 3

/-- Where hop `s` of ring `r` lands on `e`. -/
abbrev land (b : Bool) (r : Fin 4) (s : Fin 15) (e : Dev nD) : Memref sig .tc .vmem S32x2048 .f32 :=
  match b with
  | false => slot r s.succ
  | true => outV r (agC r e s.succ)

/-- A hop not begun. -/
def todo (b : Bool) (r : Fin 4) (s : Fin 15) : sProp 𝕄 :=
  iprop(anyOf (tgt r c) (land b r s (tgt r c))
    ∗ dutyTok ER (cell (kS b) r s c) 0 false ∗ reached ER (cell (kS b) r s c) 0
    ∗ dutyTok ER (cell (kR b) r s (tgt r c)) 0 false ∗ reached ER (cell (kR b) r s (tgt r c)) 0
    ∗ atPos ER (cell (kS b) r s c) 0 ∅ 0 ∗ atPos ER (cell (kR b) r s c) 0 ∅ 0
    ∗ cred (tallyAt (cell (kR b) r s c) () N))
/-- Sent, its arrival not yet taken. -/
def sent (b : Bool) (r : Fin 4) (s : Fin 15) : sProp 𝕄 :=
  iprop(cred (tallyAt (cell (kS b) r s c) () N) ∗ atPos ER (cell (kS b) r s c) 0 ∅ 0
    ∗ atPos ER (cell (kR b) r s c) 0 ∅ 0 ∗ cred (tallyAt (cell (kR b) r s c) () N))
/-- Its arrival taken, its send not yet taken back. -/
def taken (b : Bool) (r : Fin 4) (s : Fin 15) : sProp 𝕄 :=
  iprop(cred (tallyAt (cell (kS b) r s c) () N) ∗ atPos ER (cell (kS b) r s c) 0 ∅ 0
    ∗ atPos ER (cell (kR b) r s c) (0 + 1) ∅ 0)
/-- Its send taken back too. -/
def back (b : Bool) (r : Fin 4) (s : Fin 15) : sProp 𝕄 :=
  iprop(dmaPay x w (kS b) r s c ∗ atPos ER (cell (kS b) r s c) (0 + 1) ∅ 0
    ∗ atPos ER (cell (kR b) r s c) (0 + 1) ∅ 0)

/-- A hop after `0`, `1`, `2` or all three of its steps. -/
def hopSt (b : Bool) (r : Fin 4) (s : Fin 15) : ℕ → sProp 𝕄
  | 0 => todo c b r s
  | 1 => sent c b r s
  | 2 => taken c b r s
  | _ => back x w c b r s

/-- How far hop `s` is when `n` hops are sent, `m` received and `d` taken back. -/
def stage (n m d : ℕ) (s : Fin 15) : ℕ :=
  (if s.val < n then 1 else 0) + (if s.val < m then 1 else 0) + (if s.val < d then 1 else 0)

/-- Ring `r` with `n` hops sent, `m` received and `d` taken back. -/
def ring (b : Bool) (r : Fin 4) (n m d : ℕ) : sProp 𝕄 :=
  bigSep Finset.univ fun s : Fin 15 => hopSt x w c b r s (stage n m d s)

theorem ring_step (b : Bool) (r : Fin 4) (s : Fin 15) (n m d n' m' d' i j : ℕ)
    (h : ∀ s', s' ≠ s → stage n' m' d' s' = stage n m d s') (hi : stage n m d s = i) (hj : stage n' m' d' s = j) :
    ring x w c b r n m d ⊢ iprop(hopSt x w c b r s i ∗ (hopSt x w c b r s j -∗ ring x w c b r n' m' d')) := by
  subst hi hj
  exact bigSep_univ_update (Φ := fun s : Fin 15 => hopSt x w c b r s (stage n m d s))
    (Ψ := fun s : Fin 15 => hopSt x w c b r s (stage n' m' d' s)) s fun s' hs => by rw [h s' hs]

theorem ne_val {s s' : Fin 15} (h : s' ≠ s) : s'.val ≠ s.val := fun e => h (Fin.ext e)

theorem ring_send (b : Bool) (r : Fin 4) (s : Fin 15) :
    ring x w c b r s.val s.val 0 ⊢ iprop(todo c b r s ∗ (sent c b r s -∗ ring x w c b r (s.val + 1) s.val 0)) := by
  refine ring_step x w c b r s _ _ _ _ _ _ 0 1 (fun s' h => ?_) ?_ ?_
  · have := ne_val h; unfold stage; split_ifs <;> omega
  · unfold stage; simp
  · unfold stage; simp
theorem ring_recv (b : Bool) (r : Fin 4) (s : Fin 15) :
    ring x w c b r (s.val + 1) s.val 0 ⊢ iprop(sent c b r s ∗ (taken c b r s -∗ ring x w c b r (s.val + 1) (s.val + 1) 0)) := by
  refine ring_step x w c b r s _ _ _ _ _ _ 1 2 (fun s' h => ?_) ?_ ?_
  · have := ne_val h; unfold stage; split_ifs <;> omega
  · unfold stage; simp
  · unfold stage; simp
theorem ring_back (b : Bool) (r : Fin 4) (s : Fin 15) :
    ring x w c b r 15 15 s.val ⊢ iprop(taken c b r s ∗ (back x w c b r s -∗ ring x w c b r 15 15 (s.val + 1))) := by
  have hs := s.isLt
  refine ring_step x w c b r s _ _ _ _ _ _ 2 3 (fun s' h => ?_) ?_ ?_
  · have := ne_val h; unfold stage; split_ifs <;> omega
  · unfold stage; simp [hs]
  · unfold stage; simp [hs]

/-! ## The sends -/

/-- `p'` is `p` with `n` at `r`. -/
def Upd (p p' : Fin 4 → ℕ) (r : Fin 4) (n : ℕ) : Prop := ∀ i, p' i = if i = r then n else p i
theorem Upd.eq {p p' : Fin 4 → ℕ} {r : Fin 4} {n : ℕ} (h : Upd p p' r n) : p' = Function.update p r n := by
  funext i; rw [h i, Function.update_apply]

theorem rs_send (Q : PUnit → sProp 𝕄) (r : Fin 4) (s : Fin 15) (p p' : Fin 4 → ℕ) (hp : p r = s.val) (hp' : Upd p p' r (s.val + 1)) (k : P F) :
    iprop(invs x w K ∗ ring x w c false r s.val s.val 0 ∗ holds c (slot r s.castSucc) (acc x w r s.castSucc.val c) ∗ ow c p
      ∗ ((ring x w c false r (s.val + 1) s.val 0 ∗ ow c p') -∗ run c k Q))
      ⊢ run c (rsSend comM (scr 0) (scr 1) (ringPlan c) r s k) Q := by
  iintro ⟨#HI, HR, Hs, HO, Hk⟩
  ihave HR := (ring_send x w c false r s) $$ HR
  icases HR with ⟨Hh, HR⟩
  unfold todo sent
  icases Hh with ⟨Hd, HtS, HrS, HtR, HrR, HaS, HaR, Hc⟩
  unfold rsSend
  iapply (send_step x w K c Q 0 1 r s p p' (by rw [hp'.eq]; exact Ow_rs c p r s hp) (slot r s.castSucc) (slot r s.succ) rfl _ _ _
    (credit_slot r s.succ) (acc x w r s.castSucc.val c) (holds_any c (slot r s.castSucc) _)
    (by show _ ⊢ holds (tgt r c) (slot r s.succ) (acc x w r s.castSucc.val (src r (tgt r c))); rw [src_tgt]))
  isplitr; · iexact HI
  isplitl [Hs]; · iexact Hs
  isplitl [Hd]; · iexact Hd
  isplitl [HtS]; · iexact HtS
  isplitl [HrS]; · iexact HrS
  isplitl [HtR]; · iexact HtR
  isplitl [HrR]; · iexact HrR
  isplitl [HO]; · iexact HO
  iintro ⟨HcS, HO⟩
  iapply Hk
  isplitr [HO]
  · iapply HR
    isplitl [HcS]; · iexact HcS
    isplitl [HaS]; · iexact HaS
    isplitl [HaR]; · iexact HaR
    iexact Hc
  · iexact HO

theorem ag_send (Q : PUnit → sProp 𝕄) (r : Fin 4) (s : Fin 15) (p p' : Fin 4 → ℕ) (hp : p r = 15 + s.val) (hp' : Upd p p' r (15 + s.val + 1)) (k : P F) :
    iprop(invs x w K ∗ ring x w c true r s.val s.val 0
      ∗ holds c (outV r (agC r c s.castSucc)) (fin x w r (agC r c s.castSucc)) ∗ ow c p
      ∗ ((ring x w c true r (s.val + 1) s.val 0 ∗ ow c p') -∗ run c k Q))
      ⊢ run c (agSend outM (scr 2) (scr 3) (ringPlan c) r s k) Q := by
  iintro ⟨#HI, HR, Hs, HO, Hk⟩
  ihave HR := (ring_send x w c true r s) $$ HR
  icases HR with ⟨Hh, HR⟩
  unfold todo sent
  icases Hh with ⟨Hd, HtS, HrS, HtR, HrR, HaS, HaR, Hc⟩
  unfold agSend
  iapply (send_step x w K c Q 2 3 r s p p' (by rw [hp'.eq]; exact Ow_ag c p r s hp) (outV r (agC r c s.castSucc)) (outV r (agC r c s.castSucc)) rfl _ _ _
    (credit_out r (agC r c s.castSucc)) (fin x w r (agC r c s.castSucc)) .rfl
    (by show _ ⊢ holds (tgt r c) (outV r (agC r (tgt r c) s.succ)) (fin x w r (agC r (tgt r c) s.succ)); rw [agC_tgt]))
  isplitr; · iexact HI
  isplitl [Hs]; · iexact Hs
  isplitl [Hd]
  · iapply (show anyOf (F := F) (tgt r c) (outV r (agC r (tgt r c) s.succ)) ⊢ anyOf (tgt r c) (outV r (agC r c s.castSucc)) from by rw [agC_tgt]) $$ Hd
  isplitl [HtS]; · iexact HtS
  isplitl [HrS]; · iexact HrS
  isplitl [HtR]; · iexact HtR
  isplitl [HrR]; · iexact HrR
  isplitl [HO]; · iexact HO
  iintro ⟨HcS, HO⟩
  iapply Hk
  isplitr [HO]
  · iapply HR
    isplitl [HcS]; · iexact HcS
    isplitl [HaS]; · iexact HaS
    isplitl [HaR]; · iexact HaR
    iexact Hc
  · iexact HO

/-! ## The waits -/

/-- Taking an arrival. -/
theorem recv_step (Q : PUnit → sProp 𝕄) (b : Bool) (r : Fin 4) (s : Fin 15) (p : Fin 4 → ℕ)
    (hp : ∀ r', (if b then 15 + s.val else s.val) < p r')
    (src dst : Memref sig .tc .vmem S32x2048 .f32) (h1 : src.view.WordExact) (h2 : dst.view.WordExact)
    (hN : dst.view.dmaCredit = N) (kk : PUnit → P F) :
    iprop(invs x w K ∗ levAts L lv ∗ ring x w c b r (s.val + 1) s.val 0 ∗ ow c p
      ∗ ((ring x w c b r (s.val + 1) (s.val + 1) 0 ∗ dmaPay x w (kR b) r s c ∗ ow c p) -∗ run c (kk ⟨⟩) Q))
      ⊢ run c (.op (.waitDma2 (dsem (kR b) r s) src dst h1 h2) kk) Q := by
  iintro ⟨#HI, #Hlev, HR, HO, Hk⟩
  ihave HR := (ring_recv x w c b r s) $$ HR
  icases HR with ⟨Hh, HR⟩
  unfold sent taken
  icases Hh with ⟨HcS, HaS, HaR, Hc⟩
  iapply (wait_step x w K c Q (kR b) r s p (fun r' => by
    have := hp r'
    cases b
    · rw [lv_dma, if_pos rfl]; simp at this; omega
    · rw [lv_dma, if_neg (by decide), if_pos rfl]; simp at this; omega) src dst h1 h2 hN)
  isplitr; · iexact HI
  isplitr; · iexact Hlev
  isplitl [Hc]; · iexact Hc
  isplitl [HaR]; · iexact HaR
  isplitl [HO]; · iexact HO
  iintro ⟨HO, HaR, Hp⟩
  iapply Hk
  isplitr [HO Hp]
  · iapply HR
    isplitl [HcS]; · iexact HcS
    isplitl [HaS]; · iexact HaS
    iexact HaR
  isplitl [Hp]; · iexact Hp
  iexact HO

/-- Taking a send back. -/
theorem back_step (Q : PUnit → sProp 𝕄) (b : Bool) (r : Fin 4) (s : Fin 15) (p : Fin 4 → ℕ)
    (src dst : Memref sig .tc .vmem S32x2048 .f32) (h1 : src.view.WordExact) (h2 : dst.view.WordExact)
    (hN : dst.view.dmaCredit = N) (kk : PUnit → P F) :
    iprop(invs x w K ∗ levAts L lv ∗ ring x w c b r 15 15 s.val ∗ ow c p
      ∗ ((ring x w c b r 15 15 (s.val + 1) ∗ ow c p) -∗ run c (kk ⟨⟩) Q))
      ⊢ run c (.op (.waitDma2 (dsem (kS b) r s) src dst h1 h2) kk) Q := by
  iintro ⟨#HI, #Hlev, HR, HO, Hk⟩
  ihave HR := (ring_back x w c b r s) $$ HR
  icases HR with ⟨Hh, HR⟩
  unfold taken back
  icases Hh with ⟨HcS, HaS, HaR⟩
  iapply (wait_step x w K c Q (kS b) r s p (fun r' => by
    cases b <;> (rw [lv_dma, if_neg (by decide), if_neg (by decide)]; omega)) src dst h1 h2 hN)
  isplitr; · iexact HI
  isplitr; · iexact Hlev
  isplitl [HcS]; · iexact HcS
  isplitl [HaS]; · iexact HaS
  isplitl [HO]; · iexact HO
  iintro ⟨HO, HaS, Hp⟩
  iapply Hk
  isplitr [HO]
  · iapply HR
    isplitl [Hp]; · iexact Hp
    isplitl [HaS]; · iexact HaS
    iexact HaR
  iexact HO

end Cert.Ring
-- ==== Proof.Phases.lean ====
/- The two phases of the rings and their loops: the summing, the gathering, and the sends taken back. -/
module

public import proofs.«01_k».proof.Proof.Hops

@[expose] public section

noncomputable section

namespace Cert.Ring

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Facts]

local notation "𝕄" => MT nD τ sig Unit (Elt F) ℕ UU ℕ

variable (x : Dev nD → Vec F S2048x128 .f32) (w : Dev nD → Vec F S128x2048 .f32)
variable (K : GSem nD τ sig → ℕ) (c : Dev nD)

/-! ## Where a ring stands -/

/-- Summing, hop `j` the next to send. -/
def stA (r : Fin 4) (j : ℕ) : sProp 𝕄 :=
  iprop(ring x w c false r j j 0 ∗ holds c (slot r (Fin.ofNat 16 j)) (acc x w r j c)
    ∗ ring x w c true r 0 0 0 ∗ anyOf c (outV r (agC r c 0)))
/-- Summing, hop `n` sent. -/
def stB (r : Fin 4) (n : ℕ) : sProp 𝕄 :=
  iprop(ring x w c false r (n + 1) n 0 ∗ ring x w c true r 0 0 0 ∗ anyOf c (outV r (agC r c 0)))
/-- Gathering, hop `j` the next to send. -/
def stG (r : Fin 4) (j : ℕ) : sProp 𝕄 :=
  iprop(ring x w c false r 15 15 0 ∗ anyOf c (slot r 15) ∗ ring x w c true r j j 0
    ∗ holds c (outV r (agC r c (Fin.ofNat 16 j))) (fin x w r (agC r c (Fin.ofNat 16 j))))
/-- Gathering, hop `n` sent. -/
def stH (r : Fin 4) (n : ℕ) : sProp 𝕄 :=
  iprop(ring x w c false r 15 15 0 ∗ anyOf c (slot r 15) ∗ ring x w c true r (n + 1) n 0)

/-- Hop `n` sent, of the summing or at its end of the gathering. -/
def stN (r : Fin 4) (n : ℕ) : sProp 𝕄 := if n < 15 then stB x w c r n else stH x w c r 0
/-- Hop `n` of the gathering sent, or all done. -/
def stE (r : Fin 4) (n : ℕ) : sProp 𝕄 := if n < 15 then stH x w c r n else stG x w c r 15

theorem ofNat_castSucc (s : Fin 15) : Fin.ofNat 16 s.val = s.castSucc :=
  Fin.ext (Nat.mod_eq_of_lt (by have := s.isLt; omega))
theorem ofNat_succ (s : Fin 15) : Fin.ofNat 16 (s.val + 1) = s.succ :=
  Fin.ext (Nat.mod_eq_of_lt (by have := s.isLt; omega))

/-! ## One step of one ring -/

theorem rsS (Q : PUnit → sProp 𝕄) (r : Fin 4) (s : Fin 15) (p p' : Fin 4 → ℕ) (hp : p r = s.val) (hp' : Upd p p' r (s.val + 1)) (k : P F) :
    iprop(invs x w K ∗ stA x w c r s.val ∗ ow c p ∗ ((stB x w c r s.val ∗ ow c p') -∗ run c k Q))
      ⊢ run c (rsSend comM (scr 0) (scr 1) (ringPlan c) r s k) Q := by
  unfold stA stB
  rw [ofNat_castSucc]
  iintro ⟨#HI, ⟨HR, Hh, Hg, Ho⟩, HO, Hk⟩
  iapply (rs_send x w K c Q r s p p' hp hp' k)
  isplitr; · iexact HI
  isplitl [HR]; · iexact HR
  isplitl [Hh]; · iexact Hh
  isplitl [HO]; · iexact HO
  iintro ⟨HR, HO⟩
  iapply Hk
  isplitr [HO]
  · isplitl [HR]; · iexact HR
    isplitl [Hg]; · iexact Hg
    iexact Ho
  iexact HO

theorem rsR (Q : PUnit → sProp 𝕄) (r : Fin 4) (s : Fin 15) (p : Fin 4 → ℕ) (hp : ∀ i, s.val < p i) (k : P F) :
    iprop(invs x w K ∗ levAts L lv ∗ stB x w c r s.val ∗ ow c p ∗ ((stA x w c r (s.val + 1) ∗ ow c p) -∗ run c k Q))
      ⊢ run c (rsRecv comM (scr 1) r s (accK comM r s.succ (prodC x w c r (inC r c s.succ)) k)) Q := by
  unfold stA stB
  rw [ofNat_succ]
  iintro ⟨#HI, #Hlev, ⟨HR, Hg, Ho⟩, HO, Hk⟩
  unfold rsRecv
  iapply (recv_step x w K c Q false r s p hp (slot r s.castSucc) (slot r s.succ) _ _ (credit_slot r s.succ))
  isplitr; · iexact HI
  isplitr; · iexact Hlev
  isplitl [HR]; · iexact HR
  isplitl [HO]; · iexact HO
  iintro ⟨HR, Hp, HO⟩
  ihave Hp := (Entails.of_eq (show dmaPay x w (kR false) r s c = holds c (slot r s.succ) (acc x w r s.castSucc.val (src r c)) from rfl)) $$ Hp
  iapply (acc_step c Q r s.succ (acc x w r s.castSucc.val (src r c)) (prodC x w c r (inC r c s.succ)) k)
  isplitl [Hp]; · iexact Hp
  iintro Hh
  iapply Hk
  isplitr [HO]
  · isplitl [HR]; · iexact HR
    isplitl [Hh]
    · iapply (Entails.of_eq (congrArg (holds c (slot r s.succ)) (acc_succ x w r s c).symm)) $$ Hh
    isplitl [Hg]; · iexact Hg
    iexact Ho
  iexact HO

theorem ownS (Q : PUnit → sProp 𝕄) (r : Fin 4) (k : P F) :
    iprop(stA x w c r 15 ∗ (stG x w c r 0 -∗ run c k Q)) ⊢ run c (ownK outM comM (ringPlan c) r k) Q := by
  unfold stA stG
  iintro ⟨⟨HR, Hh, Hg, Ho⟩, Hk⟩
  iapply (own_step x w c Q r k)
  isplitl [Hh]; · iexact Hh
  isplitl [Ho]; · iexact Ho
  iintro ⟨Hs, Ho⟩
  iapply Hk
  isplitl [HR]; · iexact HR
  isplitl [Hs]; · iexact Hs
  isplitl [Hg]; · iexact Hg
  iexact Ho

theorem agS (Q : PUnit → sProp 𝕄) (r : Fin 4) (s : Fin 15) (p p' : Fin 4 → ℕ) (hp : p r = 15 + s.val) (hp' : Upd p p' r (15 + s.val + 1)) (k : P F) :
    iprop(invs x w K ∗ stG x w c r s.val ∗ ow c p ∗ ((stH x w c r s.val ∗ ow c p') -∗ run c k Q))
      ⊢ run c (agSend outM (scr 2) (scr 3) (ringPlan c) r s k) Q := by
  unfold stG stH
  rw [ofNat_castSucc]
  iintro ⟨#HI, ⟨HR, Hs, Hg, Hh⟩, HO, Hk⟩
  iapply (ag_send x w K c Q r s p p' hp hp' k)
  isplitr; · iexact HI
  isplitl [Hg]; · iexact Hg
  isplitl [Hh]; · iexact Hh
  isplitl [HO]; · iexact HO
  iintro ⟨Hg, HO⟩
  iapply Hk
  isplitr [HO]
  · isplitl [HR]; · iexact HR
    isplitl [Hs]; · iexact Hs
    iexact Hg
  iexact HO

theorem agR (Q : PUnit → sProp 𝕄) (r : Fin 4) (s : Fin 15) (p : Fin 4 → ℕ) (hp : ∀ i, 15 + s.val < p i) (k : P F) :
    iprop(invs x w K ∗ levAts L lv ∗ stH x w c r s.val ∗ ow c p ∗ ((stG x w c r (s.val + 1) ∗ ow c p) -∗ run c k Q))
      ⊢ run c (agWait outM (scr 3) (ringPlan c) r s k) Q := by
  unfold stG stH
  rw [ofNat_succ]
  iintro ⟨#HI, #Hlev, ⟨HR, Hs, Hg⟩, HO, Hk⟩
  unfold agWait
  iapply (recv_step x w K c Q true r s p hp (outV r (agC r c s.castSucc)) (outV r (agC r c s.castSucc)) (View.wordExact_bits rfl) (View.wordExact_bits rfl) (credit_out r (agC r c s.castSucc)) fun _ => k)
  isplitr; · iexact HI
  isplitr; · iexact Hlev
  isplitl [Hg]; · iexact Hg
  isplitl [HO]; · iexact HO
  iintro ⟨Hg, Hp, HO⟩
  iapply Hk
  isplitr [HO]
  · isplitl [HR]; · iexact HR
    isplitl [Hs]; · iexact Hs
    isplitl [Hg]; · iexact Hg
    iapply (Entails.of_eq (show dmaPay x w (kR true) r s c = holds c (outV r (agC r c s.succ)) (fin x w r (agC r c s.succ)) from rfl)) $$ Hp
  iexact HO

/-- After a hop of the summing: the next send. -/
theorem nextS (Q : PUnit → sProp 𝕄) (r : Fin 4) (s : Fin 15) (p p' : Fin 4 → ℕ) (hp : p r = s.val + 1) (hp' : Upd p p' r (s.val + 2)) (k : P F) :
    iprop(invs x w K ∗ stA x w c r (s.val + 1) ∗ ow c p ∗ ((stN x w c r (s.val + 1) ∗ ow c p') -∗ run c k Q))
      ⊢ run c (nextK outM comM (scr 0) (scr 1) (scr 2) (scr 3) (ringPlan c) r s k) Q := by
  unfold nextK stN
  by_cases h : s.val + 1 < 15
  · rw [dif_pos h, if_pos h]
    exact rsS x w K c Q r ⟨s.val + 1, h⟩ p p' hp hp' k
  · rw [dif_neg h, if_neg h]
    have hs : s.val = 14 := by have := s.isLt; omega
    rw [hs] at hp hp' ⊢
    iintro ⟨#HI, HA, HO, Hk⟩
    iapply (ownS x w c Q r)
    isplitl [HA]; · iexact HA
    iintro HG
    iapply (agS x w K c Q r 0 p p' hp hp' k)
    isplitr; · iexact HI
    isplitl [HG]; · iexact HG
    isplitl [HO]; · iexact HO
    iexact Hk

/-- After a hop of the gathering: the next send, if one is left. -/
theorem agN (Q : PUnit → sProp 𝕄) (r : Fin 4) (s : Fin 15) (p p' : Fin 4 → ℕ) (hp : p r = s.val + 16)
    (hp' : Upd p p' r (min (s.val + 17) 30)) (k : P F) :
    iprop(invs x w K ∗ stG x w c r (s.val + 1) ∗ ow c p ∗ ((stE x w c r (s.val + 1) ∗ ow c p') -∗ run c k Q))
      ⊢ run c (agNext outM (scr 2) (scr 3) (ringPlan c) r s k) Q := by
  unfold agNext stE
  by_cases h : s.val + 1 < 15
  · rw [dif_pos h, if_pos h]
    rw [Nat.min_eq_left (by omega)] at hp'
    exact agS x w K c Q r ⟨s.val + 1, h⟩ p p' (by show p r = 15 + (s.val + 1); omega)
      (by show Upd p p' r (15 + (s.val + 1) + 1); rw [show 15 + (s.val + 1) + 1 = s.val + 17 by omega]; exact hp') k
  · rw [dif_neg h, if_neg h]
    have hs : s.val = 14 := by have := s.isLt; omega
    have e : p' = p := by
      funext i
      rw [hp' i, hs]
      by_cases hi : i = r
      · rw [if_pos hi, hi, hp, hs]; rfl
      · rw [if_neg hi]
    rw [hs, e]
    iintro ⟨-, HG, HO, Hk⟩
    iapply Hk
    isplitl [HG]; · iexact HG
    iexact HO

/-! ## Loops -/

/-- A loop keeps what each of its turns keeps. -/
theorem upTo_run (Q : PUnit → sProp 𝕄) (f : Fin 15 → P F → P F) (I : ℕ → sProp 𝕄)
    (hf : ∀ (s : Fin 15) (k : P F), iprop(I s.val ∗ (I (s.val + 1) -∗ run c k Q)) ⊢ run c (f s k) Q) :
    ∀ (n : ℕ) (h : n ≤ 15) (k : P F), iprop(I 0 ∗ (I n -∗ run c k Q)) ⊢ run c (upTo f n h k) Q
  | 0, h, k => by
    show iprop(I 0 ∗ (I 0 -∗ run c k Q)) ⊢ run c k Q
    iintro ⟨HI, Hk⟩
    iapply Hk; iexact HI
  | n + 1, h, k => by
    show iprop(I 0 ∗ (I (n + 1) -∗ run c k Q)) ⊢ run c (upTo f n (Nat.le_of_succ_le h) (f ⟨n, h⟩ k)) Q
    iintro ⟨HI, Hk⟩
    iapply (upTo_run Q f I hf n (Nat.le_of_succ_le h) (f ⟨n, h⟩ k))
    isplitl [HI]; · iexact HI
    iintro HI
    iapply (hf ⟨n, h⟩ k)
    isplitl [HI]; · iexact HI
    iexact Hk

/-- How often each ring has sent before hop `n` of the summing. -/
abbrev pR (n : ℕ) : Fin 4 → ℕ := ![n + 1, n, n + 1, n]
/-- How often each ring has sent before hop `n` of the gathering. -/
abbrev pG (n : ℕ) : Fin 4 → ℕ := ![min (n + 16) 30, n + 15, min (n + 16) 30, n + 15]

/-- Before hop `n` of the summing. -/
def sumI (n : ℕ) : sProp 𝕄 :=
  iprop(invs x w K ∗ levAts L lv ∗ xw x w c ∗ stN x w c 0 n ∗ stA x w c 1 n ∗ stN x w c 2 n ∗ stA x w c 3 n ∗ ow c (pR n))
/-- Before hop `n` of the gathering. -/
def gatI (n : ℕ) : sProp 𝕄 :=
  iprop(invs x w K ∗ levAts L lv ∗ stE x w c 0 n ∗ stG x w c 1 n ∗ stE x w c 2 n ∗ stG x w c 3 n ∗ ow c (pG n))

theorem stN_lt (r : Fin 4) (s : Fin 15) : stN x w c r s.val = stB x w c r s.val := if_pos s.isLt
theorem stE_lt (r : Fin 4) (s : Fin 15) : stE x w c r s.val = stH x w c r s.val := if_pos s.isLt

/-- One hop of the summing. -/
theorem rsHop_run (Q : PUnit → sProp 𝕄) (s : Fin 15) (k : P F) :
    iprop(sumI x w K c s.val ∗ (sumI x w K c (s.val + 1) -∗ run c k Q))
      ⊢ run c (rsHop xM wM outM comM (scr 0) (scr 1) (scr 2) (scr 3) (ringPlan c) s k) Q := by
  unfold sumI
  rw [stN_lt, stN_lt]
  iintro ⟨⟨#HI, #Hlev, Hx, H0, H1, H2, H3, HO⟩, Hk⟩
  unfold rsHop
  iapply (rsS x w K c Q 1 s (pR s.val) ![s.val + 1, s.val + 1, s.val + 1, s.val] rfl (by intro i; fin_cases i <;> rfl))
  isplitr; · iexact HI
  isplitl [H1]; · iexact H1
  isplitl [HO]; · iexact HO
  iintro ⟨H1, HO⟩
  iapply (rsS x w K c Q 3 s ![s.val + 1, s.val + 1, s.val + 1, s.val] ![s.val + 1, s.val + 1, s.val + 1, s.val + 1] rfl (by intro i; fin_cases i <;> rfl))
  isplitr; · iexact HI
  isplitl [H3]; · iexact H3
  isplitl [HO]; · iexact HO
  iintro ⟨H3, HO⟩
  iapply (mm_step x w c Q 0 (inC 0 c s.succ))
  isplitl [Hx]; · iexact Hx
  iintro Hx
  iapply (mm_step x w c Q 2 (inC 2 c s.succ))
  isplitl [Hx]; · iexact Hx
  iintro Hx
  iapply (rsR x w K c Q 0 s ![s.val + 1, s.val + 1, s.val + 1, s.val + 1] (by intro i; fin_cases i <;> simp))
  isplitr; · iexact HI
  isplitr; · iexact Hlev
  isplitl [H0]; · iexact H0
  isplitl [HO]; · iexact HO
  iintro ⟨H0, HO⟩
  iapply (nextS x w K c Q 0 s ![s.val + 1, s.val + 1, s.val + 1, s.val + 1] ![s.val + 2, s.val + 1, s.val + 1, s.val + 1] rfl (by intro i; fin_cases i <;> rfl))
  isplitr; · iexact HI
  isplitl [H0]; · iexact H0
  isplitl [HO]; · iexact HO
  iintro ⟨H0, HO⟩
  iapply (rsR x w K c Q 2 s ![s.val + 2, s.val + 1, s.val + 1, s.val + 1] (by intro i; fin_cases i <;> simp))
  isplitr; · iexact HI
  isplitr; · iexact Hlev
  isplitl [H2]; · iexact H2
  isplitl [HO]; · iexact HO
  iintro ⟨H2, HO⟩
  iapply (nextS x w K c Q 2 s ![s.val + 2, s.val + 1, s.val + 1, s.val + 1] ![s.val + 2, s.val + 1, s.val + 2, s.val + 1] rfl (by intro i; fin_cases i <;> rfl))
  isplitr; · iexact HI
  isplitl [H2]; · iexact H2
  isplitl [HO]; · iexact HO
  iintro ⟨H2, HO⟩
  iapply (mm_step x w c Q 1 (inC 1 c s.succ))
  isplitl [Hx]; · iexact Hx
  iintro Hx
  iapply (mm_step x w c Q 3 (inC 3 c s.succ))
  isplitl [Hx]; · iexact Hx
  iintro Hx
  iapply (rsR x w K c Q 1 s ![s.val + 2, s.val + 1, s.val + 2, s.val + 1] (by intro i; fin_cases i <;> simp))
  isplitr; · iexact HI
  isplitr; · iexact Hlev
  isplitl [H1]; · iexact H1
  isplitl [HO]; · iexact HO
  iintro ⟨H1, HO⟩
  iapply (rsR x w K c Q 3 s ![s.val + 2, s.val + 1, s.val + 2, s.val + 1] (by intro i; fin_cases i <;> simp))
  isplitr; · iexact HI
  isplitr; · iexact Hlev
  isplitl [H3]; · iexact H3
  isplitl [HO]; · iexact HO
  iintro ⟨H3, HO⟩
  iapply Hk
  isplitr; · iexact HI
  isplitr; · iexact Hlev
  isplitl [Hx]; · iexact Hx
  isplitl [H0]; · iexact H0
  isplitl [H1]; · iexact H1
  isplitl [H2]; · iexact H2
  isplitl [H3]; · iexact H3
  iexact HO

/-- One hop of the gathering. -/
theorem agHop_run (Q : PUnit → sProp 𝕄) (s : Fin 15) (k : P F) :
    iprop(gatI x w K c s.val ∗ (gatI x w K c (s.val + 1) -∗ run c k Q))
      ⊢ run c (agHop outM (scr 2) (scr 3) (ringPlan c) s k) Q := by
  have hs := s.isLt
  have e0 : min (s.val + 16) 30 = s.val + 16 := Nat.min_eq_left (by omega)
  have e1 : min (s.val + 1 + 16) 30 = min (s.val + 17) 30 := rfl
  unfold gatI pG
  rw [stE_lt, stE_lt, e0, e1]
  iintro ⟨⟨#HI, #Hlev, H0, H1, H2, H3, HO⟩, Hk⟩
  unfold agHop
  iapply (agS x w K c Q 1 s ![s.val + 16, s.val + 15, s.val + 16, s.val + 15] ![s.val + 16, s.val + 16, s.val + 16, s.val + 15]
    (Nat.add_comm _ _) (by intro i; fin_cases i <;> simp [Nat.add_comm 15]))
  isplitr; · iexact HI
  isplitl [H1]; · iexact H1
  isplitl [HO]; · iexact HO
  iintro ⟨H1, HO⟩
  iapply (agS x w K c Q 3 s ![s.val + 16, s.val + 16, s.val + 16, s.val + 15] ![s.val + 16, s.val + 16, s.val + 16, s.val + 16] (Nat.add_comm _ _) (by intro i; fin_cases i <;> simp [Nat.add_comm 15]))
  isplitr; · iexact HI
  isplitl [H3]; · iexact H3
  isplitl [HO]; · iexact HO
  iintro ⟨H3, HO⟩
  iapply (agR x w K c Q 0 s ![s.val + 16, s.val + 16, s.val + 16, s.val + 16] (by intro i; fin_cases i <;> simp <;> omega))
  isplitr; · iexact HI
  isplitr; · iexact Hlev
  isplitl [H0]; · iexact H0
  isplitl [HO]; · iexact HO
  iintro ⟨H0, HO⟩
  iapply (agN x w K c Q 0 s ![s.val + 16, s.val + 16, s.val + 16, s.val + 16] ![min (s.val + 17) 30, s.val + 16, s.val + 16, s.val + 16] rfl (by intro i; fin_cases i <;> rfl))
  isplitr; · iexact HI
  isplitl [H0]; · iexact H0
  isplitl [HO]; · iexact HO
  iintro ⟨H0, HO⟩
  iapply (agR x w K c Q 2 s ![min (s.val + 17) 30, s.val + 16, s.val + 16, s.val + 16] (by intro i; fin_cases i <;> simp <;> omega))
  isplitr; · iexact HI
  isplitr; · iexact Hlev
  isplitl [H2]; · iexact H2
  isplitl [HO]; · iexact HO
  iintro ⟨H2, HO⟩
  iapply (agN x w K c Q 2 s ![min (s.val + 17) 30, s.val + 16, s.val + 16, s.val + 16] ![min (s.val + 17) 30, s.val + 16, min (s.val + 17) 30, s.val + 16] rfl (by intro i; fin_cases i <;> rfl))
  isplitr; · iexact HI
  isplitl [H2]; · iexact H2
  isplitl [HO]; · iexact HO
  iintro ⟨H2, HO⟩
  iapply (agR x w K c Q 1 s ![min (s.val + 17) 30, s.val + 16, min (s.val + 17) 30, s.val + 16] (by intro i; fin_cases i <;> simp <;> omega))
  isplitr; · iexact HI
  isplitr; · iexact Hlev
  isplitl [H1]; · iexact H1
  isplitl [HO]; · iexact HO
  iintro ⟨H1, HO⟩
  iapply (agR x w K c Q 3 s ![min (s.val + 17) 30, s.val + 16, min (s.val + 17) 30, s.val + 16] (by intro i; fin_cases i <;> simp <;> omega))
  isplitr; · iexact HI
  isplitr; · iexact Hlev
  isplitl [H3]; · iexact H3
  isplitl [HO]; · iexact HO
  iintro ⟨H3, HO⟩
  iapply Hk
  isplitr; · iexact HI
  isplitr; · iexact Hlev
  isplitl [H0]; · iexact H0
  isplitl [H1]; · iexact H1
  isplitl [H2]; · iexact H2
  isplitl [H3]; · iexact H3
  iexact HO

/-! ## The sends taken back -/

theorem rsD (Q : PUnit → sProp 𝕄) (r : Fin 4) (s : Fin 15) (p : Fin 4 → ℕ) (k : P F) :
    iprop(invs x w K ∗ levAts L lv ∗ ring x w c false r 15 15 s.val ∗ ow c p
      ∗ ((ring x w c false r 15 15 (s.val + 1) ∗ ow c p) -∗ run c k Q)) ⊢ run c (rsDone comM (scr 0) r s k) Q :=
  back_step x w K c Q false r s p (slot r s.succ) (slot r s.castSucc) _ _ (credit_slot r s.castSucc) fun _ => k

theorem agD (Q : PUnit → sProp 𝕄) (r : Fin 4) (s : Fin 15) (p : Fin 4 → ℕ) (k : P F) :
    iprop(invs x w K ∗ levAts L lv ∗ ring x w c true r 15 15 s.val ∗ ow c p
      ∗ ((ring x w c true r 15 15 (s.val + 1) ∗ ow c p) -∗ run c k Q)) ⊢ run c (agWait outM (scr 2) (ringPlan c) r s k) Q :=
  back_step x w K c Q true r s p (outV r (agC r c s.castSucc)) (outV r (agC r c s.castSucc)) _ _ (credit_out r (agC r c s.castSucc)) fun _ => k

/-- Before turn `n` of taking sends back. -/
def bakI (b : Bool) (p : Fin 4 → ℕ) (n : ℕ) : sProp 𝕄 :=
  iprop(invs x w K ∗ levAts L lv ∗ ring x w c b 0 15 15 (min (n + 1) 15) ∗ ring x w c b 1 15 15 n
    ∗ ring x w c b 2 15 15 (min (n + 1) 15) ∗ ring x w c b 3 15 15 n ∗ ow c p)

theorem min_lt (s : Fin 15) (h : s.val + 1 < 15) : min (s.val + 1) 15 = s.val + 1 ∧ min (s.val + 1 + 1) 15 = s.val + 1 + 1 := by omega
theorem min_last (s : Fin 15) (h : ¬ s.val + 1 < 15) : min (s.val + 1) 15 = 15 ∧ min (s.val + 1 + 1) 15 = 15 := by
  have := s.isLt; omega

theorem rsDoneHop_run (Q : PUnit → sProp 𝕄) (p : Fin 4 → ℕ) (s : Fin 15) (k : P F) :
    iprop(bakI x w K c false p s.val ∗ (bakI x w K c false p (s.val + 1) -∗ run c k Q))
      ⊢ run c (rsDoneHop comM (scr 0) s k) Q := by
  unfold bakI rsDoneHop
  iintro ⟨⟨#HI, #Hlev, H0, H1, H2, H3, HO⟩, Hk⟩
  iapply (rsD x w K c Q 1 s p)
  isplitr; · iexact HI
  isplitr; · iexact Hlev
  isplitl [H1]; · iexact H1
  isplitl [HO]; · iexact HO
  iintro ⟨H1, HO⟩
  iapply (rsD x w K c Q 3 s p)
  isplitr; · iexact HI
  isplitr; · iexact Hlev
  isplitl [H3]; · iexact H3
  isplitl [HO]; · iexact HO
  iintro ⟨H3, HO⟩
  by_cases h : s.val + 1 < 15
  · rw [dif_pos h, (min_lt s h).1, (min_lt s h).2]
    iapply (rsD x w K c Q 0 ⟨s.val + 1, h⟩ p)
    isplitr; · iexact HI
    isplitr; · iexact Hlev
    isplitl [H0]; · iexact H0
    isplitl [HO]; · iexact HO
    iintro ⟨H0, HO⟩
    iapply (rsD x w K c Q 2 ⟨s.val + 1, h⟩ p)
    isplitr; · iexact HI
    isplitr; · iexact Hlev
    isplitl [H2]; · iexact H2
    isplitl [HO]; · iexact HO
    iintro ⟨H2, HO⟩
    iapply Hk
    isplitr; · iexact HI
    isplitr; · iexact Hlev
    isplitl [H0]; · iexact H0
    isplitl [H1]; · iexact H1
    isplitl [H2]; · iexact H2
    isplitl [H3]; · iexact H3
    iexact HO
  · rw [dif_neg h, (min_last s h).1, (min_last s h).2]
    iapply Hk
    isplitr; · iexact HI
    isplitr; · iexact Hlev
    isplitl [H0]; · iexact H0
    isplitl [H1]; · iexact H1
    isplitl [H2]; · iexact H2
    isplitl [H3]; · iexact H3
    iexact HO

theorem agDoneHop_run (Q : PUnit → sProp 𝕄) (p : Fin 4 → ℕ) (s : Fin 15) (k : P F) :
    iprop(bakI x w K c true p s.val ∗ (bakI x w K c true p (s.val + 1) -∗ run c k Q))
      ⊢ run c (agDoneHop outM (scr 2) (ringPlan c) s k) Q := by
  unfold bakI agDoneHop
  iintro ⟨⟨#HI, #Hlev, H0, H1, H2, H3, HO⟩, Hk⟩
  iapply (agD x w K c Q 1 s p)
  isplitr; · iexact HI
  isplitr; · iexact Hlev
  isplitl [H1]; · iexact H1
  isplitl [HO]; · iexact HO
  iintro ⟨H1, HO⟩
  iapply (agD x w K c Q 3 s p)
  isplitr; · iexact HI
  isplitr; · iexact Hlev
  isplitl [H3]; · iexact H3
  isplitl [HO]; · iexact HO
  iintro ⟨H3, HO⟩
  by_cases h : s.val + 1 < 15
  · rw [dif_pos h, (min_lt s h).1, (min_lt s h).2]
    iapply (agD x w K c Q 0 ⟨s.val + 1, h⟩ p)
    isplitr; · iexact HI
    isplitr; · iexact Hlev
    isplitl [H0]; · iexact H0
    isplitl [HO]; · iexact HO
    iintro ⟨H0, HO⟩
    iapply (agD x w K c Q 2 ⟨s.val + 1, h⟩ p)
    isplitr; · iexact HI
    isplitr; · iexact Hlev
    isplitl [H2]; · iexact H2
    isplitl [HO]; · iexact HO
    iintro ⟨H2, HO⟩
    iapply Hk
    isplitr; · iexact HI
    isplitr; · iexact Hlev
    isplitl [H0]; · iexact H0
    isplitl [H1]; · iexact H1
    isplitl [H2]; · iexact H2
    isplitl [H3]; · iexact H3
    iexact HO
  · rw [dif_neg h, (min_last s h).1, (min_last s h).2]
    iapply Hk
    isplitr; · iexact HI
    isplitr; · iexact Hlev
    isplitl [H0]; · iexact H0
    isplitl [H1]; · iexact H1
    isplitl [H2]; · iexact H2
    isplitl [H3]; · iexact H3
    iexact HO

end Cert.Ring
-- ==== Proof.Body.lean ====
/- The whole body at one device: the barrier, the two phases, and every semaphore back at zero. -/
module

public import proofs.«01_k».proof.Proof.Phases

@[expose] public section

noncomputable section

namespace Cert.Ring

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Facts]

local notation "𝕄" => MT nD τ sig Unit (Elt F) ℕ UU ℕ

/-! ## Sums over four rings, and over sixteen chunks -/

theorem four (Φ : Fin 4 → sProp 𝕄) : bigSep Finset.univ Φ = iprop(Φ 0 ∗ Φ 1 ∗ Φ 2 ∗ Φ 3) := by
  have h : (Finset.univ : Finset (Fin 4)) = insert 0 (insert 1 (insert 2 {3})) := by decide
  rw [h, bigSep_insert (by decide), bigSep_insert (by decide), bigSep_insert (by decide), bigSep_singleton]
  rfl

theorem head16 (Φ : Fin 16 → sProp 𝕄) :
    bigSep Finset.univ Φ = iprop(Φ 0 ∗ bigSep Finset.univ fun s : Fin 15 => Φ s.succ) := by
  have h : (Finset.univ : Finset (Fin 16)).erase 0 = Finset.univ.map (Fin.succEmb 15) := by decide
  rw [bigSep_univ_at Φ 0, h, bigSep_map]
  rfl
theorem last16 (Φ : Fin 16 → sProp 𝕄) :
    bigSep Finset.univ Φ = iprop(Φ 15 ∗ bigSep Finset.univ fun s : Fin 15 => Φ s.castSucc) := by
  have h : (Finset.univ : Finset (Fin 16)).erase 15 = Finset.univ.map Fin.castSuccEmb := by decide
  rw [bigSep_univ_at Φ 15, h, bigSep_map]
  rfl

/-- The chunks in the order in which device `c` comes by them. -/
def agEquiv (r : Fin 4) (c : Dev nD) : Fin 16 ≃ Fin 16 :=
  Equiv.ofBijective (agC r c) (Finite.injective_iff_bijective.mp (agC_injective r c))

theorem by_agC (r : Fin 4) (c : Dev nD) (Φ : Fin 16 → sProp 𝕄) :
    bigSep Finset.univ Φ = bigSep Finset.univ fun j => Φ (agC r c j) :=
  bigSep_univ_equiv (agEquiv r c) Φ

variable (x : Dev nD → Vec F S2048x128 .f32) (w : Dev nD → Vec F S128x2048 .f32)
variable (K : GSem nD τ sig → ℕ) (c : Dev nD)

/-! ## What a device has when its body starts -/

/-- The ghost state of one hop, before its landing place is known. -/
def pend (b : Bool) (r : Fin 4) (s : Fin 15) : sProp 𝕄 :=
  iprop(dutyTok ER (cell (kS b) r s c) 0 false ∗ reached ER (cell (kS b) r s c) 0
    ∗ dutyTok ER (cell (kR b) r s (tgt r c)) 0 false
    ∗ atPos ER (cell (kS b) r s c) 0 ∅ 0 ∗ atPos ER (cell (kR b) r s c) 0 ∅ 0
    ∗ cred (tallyAt (cell (kR b) r s c) () N))
/-- That of ring `r`. -/
def pends (r : Fin 4) : sProp 𝕄 :=
  bigSep Finset.univ fun s : Fin 15 => iprop(pend c false r s ∗ pend c true r s)
/-- The arrivals of ring `r` are at their start. -/
def arr (r : Fin 4) : sProp 𝕄 :=
  bigSep Finset.univ fun s : Fin 15 => iprop(reached ER (cell 1 r s c) 0 ∗ reached ER (cell 3 r s c) 0)
/-- The barrier's ghost state. -/
def bars : sProp 𝕄 :=
  iprop(atPos ER (barCell c) 0 ∅ 0 ∗ cred (tallyAt (barCell c) () 2)
    ∗ dutyTok ER (barCell (nxt c)) 0 true ∗ reached ER (barCell (nxt c)) 0
    ∗ dutyTok ER (barCell (prv c)) 0 false ∗ reached ER (barCell (prv c)) 0)
/-- What device `c` owes at the start: every arrival, and a signal to each neighbour. -/
def O₀ : CellTallies nD τ sig Unit :=
  (Ow c (fun _ => 0) + tallyAt (barCell (prv c)) () 1) + tallyAt (barCell (nxt c)) () 1

/-- The travelling buffer and the result's, contents not named. -/
def comAny : sProp 𝕄 :=
  iprop(∃ f : Buf (Elt F) ((c : Thread nD τ).loc cc0_scratch0), (((c : Thread nD τ).loc cc0_scratch0) ↦{fullShare} f))
def outAny : sProp 𝕄 :=
  iprop(∃ f : Buf (Elt F) ((c : Thread nD τ).loc cc0_stg3_0), (((c : Thread nD τ).loc cc0_stg3_0) ↦{fullShare} f))
/-- The result's buffer with the result. -/
def outFin : sProp 𝕄 :=
  (((c : Thread nD τ).loc cc0_stg3_0) ↦{fullShare} (outOf (fin x w) : Buf (Elt F) ((c : Thread nD τ).loc cc0_stg3_0)))

theorem out_any : outAny c ⊢ (bigSep Finset.univ fun t : Fin 4 × Fin 16 => anyOf (F := F) c (outV t.1 t.2)) := by
  unfold outAny
  iintro ⟨%f, H⟩
  iapply (out_split c f) $$ H

/-- A ring's share of both buffers: a slot and a chunk of its own, and where the others may land. -/
def room (r : Fin 4) : sProp 𝕄 :=
  iprop(anyOf (F := F) c (slot r 0) ∗ anyOf (F := F) c (outV r (agC r c 0)) ∗ landing r c)

theorem room_ring (r : Fin 4) :
    iprop((bigSep Finset.univ fun j : Fin 16 => anyOf (F := F) c (slot r j))
      ∗ (bigSep Finset.univ fun k : Fin 16 => anyOf (F := F) c (outV r k)) ∗ arr c r) ⊢ room (F := F) c r := by
  rw [head16, by_agC r c (fun k => anyOf (F := F) c (outV r k)), head16 (fun j => anyOf (F := F) c (outV r (agC r c j)))]
  unfold room landing arr
  rw [bigSep_sep', bigSep_sep', bigSep_sep', bigSep_sep']
  iintro ⟨⟨Hs, Hss⟩, ⟨Ho, Hos⟩, H1, H3⟩
  isplitl [Hs]; · iexact Hs
  isplitl [Ho]; · iexact Ho
  isplitl [Hss H1]
  · isplitl [Hss]; · iexact Hss
    iexact H1
  isplitl [Hos]; · iexact Hos
  iexact H3

theorem room_all : iprop(comAny c ∗ outAny c ∗ bigSep Finset.univ (arr (F := F) c)) ⊢ bigSep Finset.univ (room (F := F) c) := by
  have h : iprop((bigSep Finset.univ fun r : Fin 4 => bigSep Finset.univ fun j : Fin 16 => anyOf (F := F) c (slot r j))
      ∗ (bigSep Finset.univ fun r : Fin 4 => bigSep Finset.univ fun k : Fin 16 => anyOf (F := F) c (outV r k))
      ∗ bigSep Finset.univ (arr (F := F) c)) ⊢ bigSep Finset.univ (room (F := F) c) := by
    rw [← bigSep_sep', ← bigSep_sep']
    exact bigSep_mono fun r _ => room_ring c r
  refine BIBase.Entails.trans ?_ h
  refine BIClass.sep_mono ((com_split c).trans (Entails.of_eq (bigSep_univ_prod _))) (BIClass.sep_mono ((out_any c).trans (Entails.of_eq (bigSep_univ_prod _))) .rfl)

/-! ## The barrier -/

theorem prv_nxt : prv (nxt c) = c := by revert c; decide
theorem nxt_prv : nxt (prv c) = c := by revert c; decide

/-- The barrier: a device lets its neighbours land, and may land on them. -/
theorem bar_step (Q : PUnit → sProp 𝕄) (k : P F) :
    iprop(invs x w K ∗ levAts L lv ∗ bars c ∗ landing 0 c ∗ landing 1 c ∗ landing 2 c ∗ landing 3 c
      ∗ (∃ W, owes (c : Thread nD τ) (O₀ c) W)
      ∗ ((landing 0 (nxt c) ∗ landing 1 (nxt c) ∗ landing 2 (prv c) ∗ landing 3 (prv c)
          ∗ atPos ER (barCell c) (0 + 1) ∅ 0 ∗ ow c (fun _ => 0)) -∗ run c k Q))
      ⊢ run c (barK (ringPlan c) k) Q := by
  unfold bars barK
  iintro ⟨#HI, #Hlev, ⟨Hat, Hcr, HtN, #HrN, HtP, #HrP⟩, H0, H1, H2, H3, ⟨%W, HO⟩, Hk⟩
  iapply (Rounds.wp_signal Variants.none ER (rd x w) (c : Thread nD τ) none (dst := (nxt c : Thread nD τ)) (sem := barS) (r := 0) (d := true) (κ := K (barCell (nxt c)))
      (by rw [duties_bar]; exact Finset.mem_univ _) (amount_bar x w (nxt c) true) () (Ow c (fun _ => 0) + tallyAt (barCell (prv c)) () 1) rfl) $$ [HO HtN H2 H3]
  · isplitr; · iapply (inv_bar x w K (nxt c)); iexact HI
    isplitl [HO]; · iexact HO
    isplitl [HtN]; · iexact HtN
    isplitl [H2 H3]
    · rw [payload_bar]; unfold barPay; rw [prv_nxt]
      isplitl [H2]; · iexact H2
      iexact H3
    · iexact HrN
  iintro HO
  iapply (Rounds.wp_signal Variants.none ER (rd x w) (c : Thread nD τ) none (dst := (prv c : Thread nD τ)) (sem := barS) (r := 0) (d := false) (κ := K (barCell (prv c)))
      (by rw [duties_bar]; exact Finset.mem_univ _) (amount_bar x w (prv c) false) () (Ow c (fun _ => 0)) rfl) $$ [HO HtP H0 H1]
  · isplitr; · iapply (inv_bar x w K (prv c)); iexact HI
    isplitl [HO]; · iexact HO
    isplitl [HtP]; · iexact HtP
    isplitl [H0 H1]
    · rw [payload_bar]; unfold barPay; rw [nxt_prv]
      isplitl [H0]; · iexact H0
      iexact H1
    · iexact HrP
  iintro HO
  iapply (Rounds.wp_wait_rest_token Variants.none ER (rd x w) (c : Thread nD τ) none (κ := K (barCell c))
      (wpE_semWait_eq Variants.none (c : Thread nD τ) none Set.univ) (Set.mem_univ _) () (O := Ow c (fun _ => 0)) (W := W) (R := 0) (m := 0) (T := ∅)
      ((Nat.zero_add 2).trans (expect_bar x w c).symm)) $$ [Hcr HO Hat]
  · isplitr; · iapply (inv_bar x w K c); iexact HI
    isplitl [Hcr]; · iexact Hcr
    isplitl [HO]; · iexact HO
    isplitr; · iapply (mayWait c (.reg barS) (fun _ => 0) (fun _ => by show 1 < 2 + 0; decide)); iexact Hlev
    iexact Hat
  iintro ⟨HO, Hat, -, Hpay⟩
  ihave Hp := (Entails.of_eq (rest_bar x w c)) $$ Hpay
  unfold barPay
  icases Hp with ⟨⟨H0, H1⟩, H2, H3⟩
  iapply Hk
  isplitl [H0]; · iexact H0
  isplitl [H1]; · iexact H1
  isplitl [H2]; · iexact H2
  isplitl [H3]; · iexact H3
  isplitl [Hat]; · iexact Hat
  unfold ow
  iexists _; iexact HO

/-! ## The rings at their start and at their end -/

theorem todo_intro (b : Bool) (r : Fin 4) (s : Fin 15) :
    iprop((anyOf (F := F) (tgt r c) (land b r s (tgt r c)) ∗ reached ER (cell (kR b) r s (tgt r c)) 0) ∗ pend c b r s)
      ⊢ todo (F := F) c b r s := by
  unfold pend todo
  iintro ⟨⟨H, Hr⟩, HtS, HrS, HtR, HaS, HaR, Hc⟩
  isplitl [H]; · iexact H
  isplitl [HtS]; · iexact HtS
  isplitl [HrS]; · iexact HrS
  isplitl [HtR]; · iexact HtR
  isplitl [Hr]; · iexact Hr
  isplitl [HaS]; · iexact HaS
  isplitl [HaR]; · iexact HaR
  iexact Hc

theorem ring_zero (b : Bool) (r : Fin 4) : ring x w c b r 0 0 0 = bigSep Finset.univ fun s : Fin 15 => todo (F := F) c b r s := rfl

theorem stage_all (s : Fin 15) : stage 15 15 15 s = 3 := by
  unfold stage; rw [if_pos s.isLt]
theorem ring_all (b : Bool) (r : Fin 4) : ring x w c b r 15 15 15 = bigSep Finset.univ fun s : Fin 15 => back x w c b r s := by
  unfold ring
  refine bigSep_congr fun s _ => ?_
  rw [stage_all]; rfl

/-- Ring `r` after the barrier. -/
theorem ring_start (r : Fin 4) :
    iprop(landing r (tgt r c) ∗ pends (F := F) c r) ⊢ iprop(ring x w c false r 0 0 0 ∗ ring x w c true r 0 0 0) := by
  have h : iprop(((bigSep Finset.univ fun s : Fin 15 => iprop(anyOf (F := F) (tgt r c) (slot r s.succ) ∗ reached ER (cell 1 r s (tgt r c)) 0))
        ∗ (bigSep Finset.univ fun s : Fin 15 => iprop(anyOf (F := F) (tgt r c) (outV r (agC r (tgt r c) s.succ)) ∗ reached ER (cell 3 r s (tgt r c)) 0)))
      ∗ (bigSep Finset.univ fun s : Fin 15 => pend (F := F) c false r s) ∗ (bigSep Finset.univ fun s : Fin 15 => pend (F := F) c true r s))
      ⊢ iprop((bigSep Finset.univ fun s : Fin 15 => iprop((anyOf (F := F) (tgt r c) (land false r s (tgt r c)) ∗ reached ER (cell (kR false) r s (tgt r c)) 0) ∗ pend (F := F) c false r s))
        ∗ (bigSep Finset.univ fun s : Fin 15 => iprop((anyOf (F := F) (tgt r c) (land true r s (tgt r c)) ∗ reached ER (cell (kR true) r s (tgt r c)) 0) ∗ pend (F := F) c true r s))) := by
    rw [bigSep_sep' (Ψ := fun s : Fin 15 => pend (F := F) c false r s), bigSep_sep' (Ψ := fun s : Fin 15 => pend (F := F) c true r s)]
    iintro ⟨⟨H0, H1⟩, H2, H3⟩
    isplitl [H0 H2]
    · isplitl [H0]; · iexact H0
      iexact H2
    isplitl [H1]; · iexact H1
    iexact H3
  rw [ring_zero, ring_zero]
  refine BIBase.Entails.trans ?_ (h.trans (BIClass.sep_mono (bigSep_mono fun s _ => todo_intro c false r s) (bigSep_mono fun s _ => todo_intro c true r s)))
  unfold landing pends
  rw [bigSep_sep', bigSep_sep' (Ψ := fun s : Fin 15 => pend (F := F) c true r s)]

/-- The positions of ring `r`'s cells after their one round. -/
def over (r : Fin 4) : sProp 𝕄 :=
  bigSep Finset.univ fun s : Fin 15 => bigSep Finset.univ fun k : Fin 4 => atPos ER (cell k r s c) (0 + 1) ∅ 0

theorem back_both (r : Fin 4) (s : Fin 15) :
    iprop(back x w c false r s ∗ back x w c true r s) ⊢ iprop(anyOf (F := F) c (slot r s.castSucc)
      ∗ holds c (outV r (agC r c s.castSucc)) (fin x w r (agC r c s.castSucc))
      ∗ bigSep Finset.univ fun k : Fin 4 => atPos ER (cell k r s c) (0 + 1) ∅ 0) := by
  rw [four]
  unfold back
  iintro ⟨⟨Hp, H0, H1⟩, Hq, H2, H3⟩
  isplitl [Hp]
  · iapply (Entails.of_eq (show dmaPay x w (kS false) r s c = anyOf (F := F) c (slot r s.castSucc) from rfl)) $$ Hp
  isplitl [Hq]
  · iapply (Entails.of_eq (show dmaPay x w (kS true) r s c = holds c (outV r (agC r c s.castSucc)) (fin x w r (agC r c s.castSucc)) from rfl)) $$ Hq
  isplitl [H0]; · iexact H0
  isplitl [H1]; · iexact H1
  isplitl [H2]; · iexact H2
  iexact H3

/-- Ring `r` at the end. -/
theorem ring_end (r : Fin 4) :
    iprop(ring x w c false r 15 15 15 ∗ anyOf (F := F) c (slot r 15) ∗ ring x w c true r 15 15 15
        ∗ holds c (outV r (agC r c 15)) (fin x w r (agC r c 15)))
      ⊢ iprop((bigSep Finset.univ fun j : Fin 16 => anyOf (F := F) c (slot r j))
        ∗ (bigSep Finset.univ fun k : Fin 16 => holds c (outV r k) (fin x w r k)) ∗ over c r) := by
  rw [last16 (fun j => anyOf (F := F) c (slot r j)), by_agC r c (fun k => holds c (outV r k) (fin x w r k)),
    last16 (fun j => holds c (outV r (agC r c j)) (fin x w r (agC r c j))), ring_all, ring_all]
  have h : iprop((bigSep Finset.univ fun s : Fin 15 => back x w c false r s) ∗ (bigSep Finset.univ fun s : Fin 15 => back x w c true r s))
      ⊢ iprop((bigSep Finset.univ fun s : Fin 15 => anyOf (F := F) c (slot r s.castSucc))
        ∗ (bigSep Finset.univ fun s : Fin 15 => holds c (outV r (agC r c s.castSucc)) (fin x w r (agC r c s.castSucc))) ∗ over c r) := by
    unfold over
    rw [← bigSep_sep', ← bigSep_sep', ← bigSep_sep']
    exact bigSep_mono fun s _ => back_both x w c r s
  iintro ⟨H0, Hs, H1, Ho⟩
  ihave H := h $$ [H0 H1]
  · isplitl [H0]; · iexact H0
    iexact H1
  icases H with ⟨Hss, Hoo, Hov⟩
  isplitl [Hs Hss]
  · isplitl [Hs]; · iexact Hs
    iexact Hss
  isplitl [Ho Hoo]
  · isplitl [Ho]; · iexact Ho
    iexact Hoo
  iexact Hov

/-- A semaphore after its one round is back at zero. -/
theorem close_dma (k r : Fin 4) (s : Fin 15) :
    iprop(invs x w K ∗ atPos ER (cell k r s c) (0 + 1) ∅ 0) ⊢ (|={Set.univ}=> semVal (cell k r s c) 0 : sProp 𝕄) := by
  iintro ⟨#HI, H⟩
  iapply (Rounds.cell_close ER (rd x w) (κ := K (cell k r s c)) (Set.mem_univ _) id (duties_later x w (cell k r s c)))
  isplitr; · iapply (inv_dma x w K k r s c); iexact HI
  iexact H
theorem close_bar :
    iprop(invs x w K ∗ atPos ER (barCell c) (0 + 1) ∅ 0) ⊢ (|={Set.univ}=> semVal (barCell c) 0 : sProp 𝕄) := by
  iintro ⟨#HI, H⟩
  iapply (Rounds.cell_close ER (rd x w) (κ := K (barCell c)) (Set.mem_univ _) id (duties_later x w (barCell c)))
  isplitr; · iapply (inv_bar x w K c); iexact HI
  iexact H

/-- Ring `r`'s semaphores at zero. -/
def zeros (r : Fin 4) : sProp 𝕄 :=
  bigSep Finset.univ fun s : Fin 15 => bigSep Finset.univ fun k : Fin 4 => semVal (cell k r s c) 0

theorem close_ring (r : Fin 4) : iprop(invs x w K ∗ over c r) ⊢ (|={Set.univ}=> zeros c r : sProp 𝕄) := by
  unfold over zeros
  refine (bigSep_with_persistent (Ψ := fun s : Fin 15 => iprop(|={Set.univ}=> bigSep Finset.univ fun k : Fin 4 => semVal (cell k r s c) 0)) fun s _ => ?_).trans (bigSep_fupd _ _)
  exact (bigSep_with_persistent (Ψ := fun k : Fin 4 => iprop(|={Set.univ}=> semVal (cell k r s c) 0)) fun k _ => close_dma x w K c k r s).trans (bigSep_fupd _ _)

theorem close_rings : iprop(invs x w K ∗ bigSep Finset.univ (over (F := F) c)) ⊢ (|={Set.univ}=> bigSep Finset.univ (zeros (F := F) c) : sProp 𝕄) :=
  (bigSep_with_persistent (Ψ := fun r : Fin 4 => iprop(|={Set.univ}=> zeros c r)) fun r _ => close_ring x w K c r).trans (bigSep_fupd _ _)

/-- What the rings leave behind. -/
theorem rings_end :
    (bigSep Finset.univ fun r : Fin 4 => iprop(ring x w c false r 15 15 15 ∗ anyOf (F := F) c (slot r 15) ∗ ring x w c true r 15 15 15
        ∗ holds c (outV r (agC r c 15)) (fin x w r (agC r c 15))))
      ⊢ iprop(comAny c ∗ outFin x w c ∗ bigSep Finset.univ (over (F := F) c)) := by
  refine (bigSep_mono fun r _ => ring_end x w c r).trans ?_
  rw [bigSep_sep', bigSep_sep']
  refine BIClass.sep_mono (BIBase.Entails.trans (Entails.of_eq (bigSep_univ_prod (fun t : Fin 4 × Fin 16 => anyOf (F := F) c (slot t.1 t.2))).symm) (com_join c)) (sep_mono ?_ .rfl)
  exact BIBase.Entails.trans (Entails.of_eq (bigSep_univ_prod (fun t : Fin 4 × Fin 16 => holds c (outV t.1 t.2) (fin x w t.1 t.2))).symm) (out_join c (fin x w))

/-! ## The body -/

/-- What the body starts from. -/
def bodyPre : sProp 𝕄 :=
  iprop(invs x w K ∗ levAts L lv ∗ xw x w c ∗ comAny c ∗ outAny c ∗ bars c ∗ bigSep Finset.univ (pends (F := F) c)
    ∗ bigSep Finset.univ (arr (F := F) c) ∗ (∃ W, owes (c : Thread nD τ) (O₀ c) W))
/-- What it ends with. -/
def bodyPost : sProp 𝕄 :=
  iprop(xw x w c ∗ comAny c ∗ outFin x w c ∗ semVal (barCell c) 0 ∗ bigSep Finset.univ (zeros (F := F) c)
    ∗ (∃ W, owes (c : Thread nD τ) 0 W))

/-- The first four products, and the barrier. -/
theorem open_run (Q : PUnit → sProp 𝕄) (k : P F) :
    iprop(bodyPre x w K c ∗ ((invs x w K ∗ levAts L lv ∗ xw x w c ∗ stA x w c 0 0 ∗ stA x w c 1 0 ∗ stA x w c 2 0 ∗ stA x w c 3 0
        ∗ atPos ER (barCell c) (0 + 1) ∅ 0 ∗ ow c (fun _ => 0)) -∗ run c k Q))
      ⊢ run c (iniK xM wM comM (ringPlan c) 0 <| iniK xM wM comM (ringPlan c) 1 <| iniK xM wM comM (ringPlan c) 2 <|
          iniK xM wM comM (ringPlan c) 3 <| barK (ringPlan c) k) Q := by
  unfold bodyPre
  iintro ⟨⟨#HI, #Hlev, Hx, Hc, Ho, Hb, Hp, Ha, HO⟩, Hk⟩
  ihave H := (room_all c) $$ [Hc Ho Ha]
  · isplitl [Hc]; · iexact Hc
    isplitl [Ho]; · iexact Ho
    iexact Ha
  ihave H := (Entails.of_eq (four (room (F := F) c))) $$ H
  ihave Hp := (Entails.of_eq (four (pends (F := F) c))) $$ Hp
  unfold room
  icases H with ⟨⟨Hs0, Ho0, Hl0⟩, ⟨Hs1, Ho1, Hl1⟩, ⟨Hs2, Ho2, Hl2⟩, Hs3, Ho3, Hl3⟩
  icases Hp with ⟨Hp0, Hp1, Hp2, Hp3⟩
  iapply (ini_step x w c Q 0)
  isplitl [Hx]; · iexact Hx
  isplitl [Hs0]; · iexact Hs0
  iintro ⟨Hx, Hs0⟩
  iapply (ini_step x w c Q 1)
  isplitl [Hx]; · iexact Hx
  isplitl [Hs1]; · iexact Hs1
  iintro ⟨Hx, Hs1⟩
  iapply (ini_step x w c Q 2)
  isplitl [Hx]; · iexact Hx
  isplitl [Hs2]; · iexact Hs2
  iintro ⟨Hx, Hs2⟩
  iapply (ini_step x w c Q 3)
  isplitl [Hx]; · iexact Hx
  isplitl [Hs3]; · iexact Hs3
  iintro ⟨Hx, Hs3⟩
  iapply (bar_step x w K c Q k)
  isplitr; · iexact HI
  isplitr; · iexact Hlev
  isplitl [Hb]; · iexact Hb
  isplitl [Hl0]; · iexact Hl0
  isplitl [Hl1]; · iexact Hl1
  isplitl [Hl2]; · iexact Hl2
  isplitl [Hl3]; · iexact Hl3
  isplitl [HO]; · iexact HO
  iintro ⟨Hl0, Hl1, Hl2, Hl3, Hat, HO⟩
  ihave H0 := (ring_start x w c 0) $$ [Hl0 Hp0]
  · isplitl [Hl0]; · iexact Hl0
    iexact Hp0
  ihave H1 := (ring_start x w c 1) $$ [Hl1 Hp1]
  · isplitl [Hl1]; · iexact Hl1
    iexact Hp1
  ihave H2 := (ring_start x w c 2) $$ [Hl2 Hp2]
  · isplitl [Hl2]; · iexact Hl2
    iexact Hp2
  ihave H3 := (ring_start x w c 3) $$ [Hl3 Hp3]
  · isplitl [Hl3]; · iexact Hl3
    iexact Hp3
  icases H0 with ⟨H0, H0'⟩
  icases H1 with ⟨H1, H1'⟩
  icases H2 with ⟨H2, H2'⟩
  icases H3 with ⟨H3, H3'⟩
  iapply Hk
  unfold stA
  isplitr; · iexact HI
  isplitr; · iexact Hlev
  isplitl [Hx]; · iexact Hx
  isplitl [H0 H0' Hs0 Ho0]
  · isplitl [H0]; · iexact H0
    isplitl [Hs0]; · iexact Hs0
    isplitl [H0']; · iexact H0'
    iexact Ho0
  isplitl [H1 H1' Hs1 Ho1]
  · isplitl [H1]; · iexact H1
    isplitl [Hs1]; · iexact Hs1
    isplitl [H1']; · iexact H1'
    iexact Ho1
  isplitl [H2 H2' Hs2 Ho2]
  · isplitl [H2]; · iexact H2
    isplitl [Hs2]; · iexact Hs2
    isplitl [H2']; · iexact H2'
    iexact Ho2
  isplitl [H3 H3' Hs3 Ho3]
  · isplitl [H3]; · iexact H3
    isplitl [Hs3]; · iexact Hs3
    isplitl [H3']; · iexact H3'
    iexact Ho3
  isplitl [Hat]; · iexact Hat
  iexact HO

theorem stN_zero (r : Fin 4) : stB x w c r (0 : Fin 15).val = stN x w c r 0 := (if_pos (by decide)).symm
theorem stN_end (r : Fin 4) : stN x w c r 15 = stE x w c r 0 := (if_neg (by decide)).trans (if_pos (by decide)).symm
theorem stE_end (r : Fin 4) : stE x w c r 15 = stG x w c r 15 := if_neg (by decide)

/-- The summing and the gathering. -/
theorem mid_run (Q : PUnit → sProp 𝕄) (k : P F) :
    iprop((invs x w K ∗ levAts L lv ∗ xw x w c ∗ stA x w c 0 0 ∗ stA x w c 1 0 ∗ stA x w c 2 0 ∗ stA x w c 3 0 ∗ ow c (fun _ => 0))
      ∗ ((xw x w c ∗ stG x w c 0 15 ∗ stG x w c 1 15 ∗ stG x w c 2 15 ∗ stG x w c 3 15 ∗ ow c (pG 15)) -∗ run c k Q))
      ⊢ run c (rsSend comM (scr 0) (scr 1) (ringPlan c) 0 0 <| rsSend comM (scr 0) (scr 1) (ringPlan c) 2 0 <|
          upTo (rsHop xM wM outM comM (scr 0) (scr 1) (scr 2) (scr 3) (ringPlan c)) 15 le_rfl <|
          ownK outM comM (ringPlan c) 1 <| ownK outM comM (ringPlan c) 3 <|
          upTo (agHop outM (scr 2) (scr 3) (ringPlan c)) 15 le_rfl k) Q := by
  iintro ⟨⟨#HI, #Hlev, Hx, H0, H1, H2, H3, HO⟩, Hk⟩
  iapply (rsS x w K c Q 0 0 (fun _ => 0) ![1, 0, 0, 0] rfl (by intro i; fin_cases i <;> rfl))
  isplitr; · iexact HI
  isplitl [H0]; · iexact H0
  isplitl [HO]; · iexact HO
  iintro ⟨H0, HO⟩
  iapply (rsS x w K c Q 2 0 ![1, 0, 0, 0] (pR 0) rfl (by intro i; fin_cases i <;> rfl))
  isplitr; · iexact HI
  isplitl [H2]; · iexact H2
  isplitl [HO]; · iexact HO
  iintro ⟨H2, HO⟩
  iapply (upTo_run c Q _ (sumI x w K c) (rsHop_run x w K c Q) 15 le_rfl)
  isplitl [Hx H0 H1 H2 H3 HO]
  · unfold sumI
    isplitr; · iexact HI
    isplitr; · iexact Hlev
    isplitl [Hx]; · iexact Hx
    isplitl [H0]; · iapply (Entails.of_eq (stN_zero x w c 0)) $$ H0
    isplitl [H1]; · iexact H1
    isplitl [H2]; · iapply (Entails.of_eq (stN_zero x w c 2)) $$ H2
    isplitl [H3]; · iexact H3
    iexact HO
  unfold sumI
  iintro ⟨-, -, Hx, H0, H1, H2, H3, HO⟩
  iapply (ownS x w c Q 1)
  isplitl [H1]; · iexact H1
  iintro H1
  iapply (ownS x w c Q 3)
  isplitl [H3]; · iexact H3
  iintro H3
  iapply (upTo_run c Q _ (gatI x w K c) (agHop_run x w K c Q) 15 le_rfl)
  isplitl [H0 H1 H2 H3 HO]
  · unfold gatI
    isplitr; · iexact HI
    isplitr; · iexact Hlev
    isplitl [H0]; · iapply (Entails.of_eq (stN_end x w c 0)) $$ H0
    isplitl [H1]; · iexact H1
    isplitl [H2]; · iapply (Entails.of_eq (stN_end x w c 2)) $$ H2
    isplitl [H3]; · iexact H3
    iexact HO
  unfold gatI
  iintro ⟨-, -, H0, H1, H2, H3, HO⟩
  iapply Hk
  isplitl [Hx]; · iexact Hx
  isplitl [H0]; · iapply (Entails.of_eq (stE_end x w c 0)) $$ H0
  isplitl [H1]; · iexact H1
  isplitl [H2]; · iapply (Entails.of_eq (stE_end x w c 2)) $$ H2
  isplitl [H3]; · iexact H3
  iexact HO

/-- The sends taken back. -/
theorem back_run (Q : PUnit → sProp 𝕄) (p : Fin 4 → ℕ) (k : P F) :
    iprop((invs x w K ∗ levAts L lv
        ∗ (ring x w c false 0 15 15 0 ∗ ring x w c false 1 15 15 0 ∗ ring x w c false 2 15 15 0 ∗ ring x w c false 3 15 15 0)
        ∗ (ring x w c true 0 15 15 0 ∗ ring x w c true 1 15 15 0 ∗ ring x w c true 2 15 15 0 ∗ ring x w c true 3 15 15 0) ∗ ow c p)
      ∗ (((ring x w c false 0 15 15 15 ∗ ring x w c false 1 15 15 15 ∗ ring x w c false 2 15 15 15 ∗ ring x w c false 3 15 15 15)
        ∗ (ring x w c true 0 15 15 15 ∗ ring x w c true 1 15 15 15 ∗ ring x w c true 2 15 15 15 ∗ ring x w c true 3 15 15 15) ∗ ow c p)
          -∗ run c k Q))
      ⊢ run c (rsDone comM (scr 0) 0 0 <| rsDone comM (scr 0) 2 0 <| upTo (rsDoneHop comM (scr 0)) 15 le_rfl <|
          agWait outM (scr 2) (ringPlan c) 0 0 <| agWait outM (scr 2) (ringPlan c) 2 0 <|
          upTo (agDoneHop outM (scr 2) (ringPlan c)) 15 le_rfl k) Q := by
  iintro ⟨⟨#HI, #Hlev, ⟨H0, H1, H2, H3⟩, ⟨G0, G1, G2, G3⟩, HO⟩, Hk⟩
  iapply (rsD x w K c Q 0 0 p)
  isplitr; · iexact HI
  isplitr; · iexact Hlev
  isplitl [H0]; · iexact H0
  isplitl [HO]; · iexact HO
  iintro ⟨H0, HO⟩
  iapply (rsD x w K c Q 2 0 p)
  isplitr; · iexact HI
  isplitr; · iexact Hlev
  isplitl [H2]; · iexact H2
  isplitl [HO]; · iexact HO
  iintro ⟨H2, HO⟩
  iapply (upTo_run c Q _ (bakI x w K c false p) (rsDoneHop_run x w K c Q p) 15 le_rfl)
  isplitl [H0 H1 H2 H3 HO]
  · unfold bakI
    isplitr; · iexact HI
    isplitr; · iexact Hlev
    isplitl [H0]; · iexact H0
    isplitl [H1]; · iexact H1
    isplitl [H2]; · iexact H2
    isplitl [H3]; · iexact H3
    iexact HO
  unfold bakI
  iintro ⟨-, -, H0, H1, H2, H3, HO⟩
  iapply (agD x w K c Q 0 0 p)
  isplitr; · iexact HI
  isplitr; · iexact Hlev
  isplitl [G0]; · iexact G0
  isplitl [HO]; · iexact HO
  iintro ⟨G0, HO⟩
  iapply (agD x w K c Q 2 0 p)
  isplitr; · iexact HI
  isplitr; · iexact Hlev
  isplitl [G2]; · iexact G2
  isplitl [HO]; · iexact HO
  iintro ⟨G2, HO⟩
  iapply (upTo_run c Q _ (bakI x w K c true p) (agDoneHop_run x w K c Q p) 15 le_rfl)
  isplitl [G0 G1 G2 G3 HO]
  · unfold bakI
    isplitr; · iexact HI
    isplitr; · iexact Hlev
    isplitl [G0]; · iexact G0
    isplitl [G1]; · iexact G1
    isplitl [G2]; · iexact G2
    isplitl [G3]; · iexact G3
    iexact HO
  unfold bakI
  iintro ⟨-, -, G0, G1, G2, G3, HO⟩
  iapply Hk
  isplitl [H0 H1 H2 H3]
  · isplitl [H0]; · iexact H0
    isplitl [H1]; · iexact H1
    isplitl [H2]; · iexact H2
    iexact H3
  isplitl [G0 G1 G2 G3]
  · isplitl [G0]; · iexact G0
    isplitl [G1]; · iexact G1
    isplitl [G2]; · iexact G2
    iexact G3
  iexact HO

/-- The body's run, its words read. -/
theorem ring_run (Q : PUnit → sProp 𝕄) :
    iprop(bodyPre x w K c ∗ (bodyPost x w c -∗ Q PUnit.unit))
      ⊢ run c (ringP xM wM outM comM (scr 0) (scr 1) (scr 2) (scr 3) (ringPlan c)) Q := by
  unfold ringP
  iintro ⟨Hpre, Hk⟩
  iapply (open_run x w K c Q)
  isplitl [Hpre]; · iexact Hpre
  iintro ⟨#HI, #Hlev, Hx, H0, H1, H2, H3, Hat, HO⟩
  iapply (mid_run x w K c Q)
  isplitl [Hx H0 H1 H2 H3 HO]
  · isplitr; · iexact HI
    isplitr; · iexact Hlev
    isplitl [Hx]; · iexact Hx
    isplitl [H0]; · iexact H0
    isplitl [H1]; · iexact H1
    isplitl [H2]; · iexact H2
    isplitl [H3]; · iexact H3
    iexact HO
  iintro ⟨Hx, H0, H1, H2, H3, HO⟩
  unfold stG
  icases H0 with ⟨R0, S0, A0, O0⟩
  icases H1 with ⟨R1, S1, A1, O1⟩
  icases H2 with ⟨R2, S2, A2, O2⟩
  icases H3 with ⟨R3, S3, A3, O3⟩
  iapply (back_run x w K c Q (pG 15))
  isplitl [R0 R1 R2 R3 A0 A1 A2 A3 HO]
  · isplitr; · iexact HI
    isplitr; · iexact Hlev
    isplitl [R0 R1 R2 R3]
    · isplitl [R0]; · iexact R0
      isplitl [R1]; · iexact R1
      isplitl [R2]; · iexact R2
      iexact R3
    isplitl [A0 A1 A2 A3]
    · isplitl [A0]; · iexact A0
      isplitl [A1]; · iexact A1
      isplitl [A2]; · iexact A2
      iexact A3
    iexact HO
  iintro ⟨⟨R0, R1, R2, R3⟩, ⟨A0, A1, A2, A3⟩, HO⟩
  ihave H := ((Entails.of_eq (four _).symm).trans (rings_end x w c)) $$ [R0 R1 R2 R3 A0 A1 A2 A3 S0 S1 S2 S3 O0 O1 O2 O3]
  · isplitl [R0 A0 S0 O0]
    · isplitl [R0]; · iexact R0
      isplitl [S0]; · iexact S0
      isplitl [A0]; · iexact A0
      iexact O0
    isplitl [R1 A1 S1 O1]
    · isplitl [R1]; · iexact R1
      isplitl [S1]; · iexact S1
      isplitl [A1]; · iexact A1
      iexact O1
    isplitl [R2 A2 S2 O2]
    · isplitl [R2]; · iexact R2
      isplitl [S2]; · iexact S2
      isplitl [A2]; · iexact A2
      iexact O2
    isplitl [R3]; · iexact R3
    isplitl [S3]; · iexact S3
    isplitl [A3]; · iexact A3
    iexact O3
  icases H with ⟨Hc, Ho, Hov⟩
  unfold run
  rw [wp_ret]
  imod (close_rings x w K c) $$ [Hov] with Hz
  · isplitr; · iexact HI
    iexact Hov
  imod (close_bar x w K c) $$ [Hat] with Hb
  · isplitr; · iexact HI
    iexact Hat
  imodintro
  iapply Hk
  unfold bodyPost ow
  rw [Ow_done c (pG 15) (by intro r; fin_cases r <;> rfl)]
  isplitl [Hx]; · iexact Hx
  isplitl [Hc]; · iexact Hc
  isplitl [Ho]; · iexact Ho
  isplitl [Hb]; · iexact Hb
  isplitl [Hz]; · iexact Hz
  iexact HO

end Cert.Ring
-- ==== Proof.Meta.lean ====
/- What the host code hands the kernel: each device's three words, picked from three tables at the device's
   own number. -/
module

public import proofs.«01_k».proof.Proof.Mesh
public import proofs.«01_k».proof.Proof.Gen.KernelIdeal.Regions
public import Idealize.ShloMosaic.Lib.StableHlo.RunRead

@[expose] public section

noncomputable section

namespace Cert.Ring

open Cert.KernelIdeal
open Idealize.ShloMosaic Idealize.ShloMosaic.TcCoe Idealize.SL.Sem
open Cert.KernelIdeal.Facts₀ Cert.KernelIdeal.Facts

/-- The device's number as the host code computes it. -/
def hostIx (c : Dev nD) : IVec S_ 32 :=
  select (cmpi .slt (Host.remui (Host.divui (constantI S_ 32 (Dev.word c)) (constantI S_ 32 1#32)) (constantI S_ 32 16#32)) (constantI S_ 32 0#32))
    (addi (Host.remui (Host.divui (constantI S_ 32 (Dev.word c)) (constantI S_ 32 1#32)) (constantI S_ 32 16#32)) (constantI S_ 32 16#32))
    (Host.remui (Host.divui (constantI S_ 32 (Dev.word c)) (constantI S_ 32 1#32)) (constantI S_ 32 16#32))

/-- A table's entry at that number. -/
def hostPick (t : Fin 16 → BitVec 32) (c : Dev nD) : IVec S1 32 :=
  broadcastInDim S1 ![] bcast_S_S1 (shapeCast S_ (Host.dynamicSlice S1 (fun i => t (S16.rowMajor i) : IVec S16 32)
    (fun _ => (hostIx c (Shape.Idx.first h_S_)).toInt) sliceFits_S16_S1) shapeCasts_S1_S_)

variable {F : FTy → Type} [FloatOps F]
variable (m : (b : Loc nD τ sig) → Buf (Elt F) b)

theorem ix0 (c : Dev nD) : StableHlo.upto (Gen.hostOps0 c) (Gen.V0 m c) 14 (Proc.devRef .tc main_v7) = hostIx c := by
  after_reads_simp
  rfl

theorem ix1 (c : Dev nD) : StableHlo.upto (Gen.hostOps0 c) (Gen.V0 m c) 21 (Proc.devRef .tc main_v12) = hostIx c := by
  after_reads_simp
  rfl

theorem ix2 (c : Dev nD) : StableHlo.upto (Gen.hostOps0 c) (Gen.V0 m c) 28 (Proc.devRef .tc main_v17) = hostIx c := by
  after_reads_simp
  rfl

/-- A table's entry at a number held in a buffer. -/
abbrev pickAt (t : Fin 16 → BitVec 32) (x : (⟨S_, .i32⟩ : BufTy).Contents (Elt F)) : (⟨S1, .i32⟩ : BufTy).Contents (Elt F) :=
  broadcastInDim S1 ![] bcast_S_S1 (shapeCast S_ (Host.dynamicSlice S1 (fun i => t (S16.rowMajor i) : (⟨S16, .i32⟩ : BufTy).Contents (Elt F))
    (fun _ => (x (Shape.Idx.first h_S_)).toInt) sliceFits_S16_S1) shapeCasts_S1_S_)

theorem fun_one {β : Type} (f : Fin 1 → β) : f = fun _ => f 0 := funext fun k => congrArg f (Subsingleton.elim k 0)

theorem read0 (c : Dev nD) :
    StableHlo.upto (Gen.hostOps0 c) (Gen.V0 m c) 33 (Proc.devRef .tc main_v20) = hostPick lit0 c := by
  after_reads_simp
  rw [fun_one fun k => BitVec.toInt _]
  show pickAt lit0 (StableHlo.upto (Gen.hostOps0 c) (Gen.V0 m c) 14 (Proc.devRef .tc main_v7)) = _
  rw [ix0]
  rfl

theorem read1 (c : Dev nD) :
    StableHlo.upto (Gen.hostOps0 c) (Gen.V0 m c) 33 (Proc.devRef .tc main_v21) = hostPick lit1 c := by
  after_reads_simp
  rw [fun_one fun k => BitVec.toInt _]
  show pickAt lit1 (StableHlo.upto (Gen.hostOps0 c) (Gen.V0 m c) 21 (Proc.devRef .tc main_v12)) = _
  rw [ix1]
  rfl

theorem read2 (c : Dev nD) :
    StableHlo.upto (Gen.hostOps0 c) (Gen.V0 m c) 33 (Proc.devRef .tc main_v22) = hostPick lit2 c := by
  after_reads_simp
  rw [fun_one fun k => BitVec.toInt _]
  show pickAt lit2 (StableHlo.upto (Gen.hostOps0 c) (Gen.V0 m c) 28 (Proc.devRef .tc main_v17)) = _
  rw [ix2]
  rfl

/-- The words as one vector. -/
def metaOf (c : Dev nD) : IVec S3 32 :=
  concatenate S3 0 [⟨S1, hostPick lit0 c⟩, ⟨S1, hostPick lit1 c⟩, ⟨S1, hostPick lit2 c⟩] concatenates_S1_S1_S1_S3_d0

theorem V1_words (c : Dev nD) : Gen.V1 m c (Proc.devRef .tc main_v23) = metaOf c := by
  show StableHlo.after (Gen.hostOps0 c) (Gen.V0 m c) (Proc.devRef .tc main_v23) = _
  after_reads_simp
  show concatenate S3 0
    [⟨S1, StableHlo.upto (Gen.hostOps0 c) (Gen.V0 m c) 33 (Proc.devRef .tc main_v20)⟩,
      ⟨S1, StableHlo.upto (Gen.hostOps0 c) (Gen.V0 m c) 33 (Proc.devRef .tc main_v21)⟩,
      ⟨S1, StableHlo.upto (Gen.hostOps0 c) (Gen.V0 m c) 33 (Proc.devRef .tc main_v22)⟩] _ = _
  rw [read0, read1, read2]
  rfl

/-- Position `k` of a vector of three. -/
abbrev at3 (k : Fin 3) : S3.Idx := fun a => Fin.cast (by revert a; decide) k

theorem metaOf_at (c : Dev nD) : metaOf c (at3 0) = word0 c ∧ metaOf c (at3 1) = word1 c ∧ metaOf c (at3 2) = word2 c := by
  revert c; decide +kernel
-- ==== Proof.Region.lean ====
/- The kernel call as the program makes it: the three words read, the operands staged, the rings run, the result
   written back. -/
module

public import proofs.«01_k».proof.Proof.Body
public import proofs.«01_k».proof.Proof.Meta
public import proofs.«01_k».proof.Proof.Gen.KernelIdeal.Points
public import Idealize.ShloMosaic.Lib.Pipeline.RegionTalk

@[expose] public section

noncomputable section

namespace Cert.Ring

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Facts₀ Cert.KernelIdeal.Facts

variable {F : FTy → Type} [FloatOps F]

local notation "𝕄" => MT nD τ sig Unit (Elt F) ℕ UU ℕ

/-! ## The words -/

theorem word_read (c : Dev nD) (k : Fin 3) (v : BitVec 32) (hv : metaOf c (at3 k) = v) (i : Fin 1 → Nat)
    (h : ∀ a, i a + S1.size a ≤ S3.size a) (hi : ∀ a, i a = k.val) (j : (Rect.unit (s := S3) i S1.size h).shape.Idx) :
    (metaM.access (Rect.unit (s := S3) i S1.size h)).read (Elt F) (metaOf c : Buf (Elt F) ((c : Thread nD τ).loc cc0_stg2_0)) j = v := by
  rw [View.read_apply]
  show metaOf c ((Rect.unit (s := S3) i S1.size h).emb j) = v
  refine (congrArg (metaOf c) (funext fun a => Fin.ext ?_)).trans hv
  have hj : (j a).val < 1 := by
    have e : ∀ b, S1.size b = 1 := by decide
    exact Nat.lt_of_lt_of_le (j a).isLt (Nat.le_of_eq (e a))
  show i a + 1 * (j a).val = k.val
  rw [hi]; omega

/-- The words in scalar memory. -/
def metaP (c : Dev nD) : sProp 𝕄 :=
  (((c : Thread nD τ).loc cc0_stg2_0) ↦{fullShare} (metaOf c : Buf (Elt F) ((c : Thread nD τ).loc cc0_stg2_0)))

theorem word_step (c : Dev nD) (Q : PUnit → sProp 𝕄) (k : Fin 3) (v : BitVec 32) (hv : metaOf c (at3 k) = v) (i : Fin 1 → Nat)
    (h : ∀ a, i a + S1.size a ≤ S3.size a) (hi : ∀ a, i a = k.val) (kk : BitVec 32 → P F) :
    iprop(metaP c ∗ (metaP c -∗ run c (kk v) Q)) ⊢ run c (wordK metaM i h kk) Q := by
  unfold metaP wordK
  iintro ⟨Hm, Hk⟩
  iapply (wp_smemLoadElt Variants.none (c : Thread nD τ) none Set.univ (m := metaM) (r := Rect.unit (s := S3) i S1.size h)
    (x := Shape.Idx.first (numel1_S1.symm ▸ Nat.one_pos)) (S := Finset.univ) (f := metaOf c) (Finset.subset_univ _)) $$ [Hm]
  · iexact Hm
  iintro Hm
  rw [word_read c k v hv i h hi]
  iapply Hk
  iexact Hm

/-- The body reads its words and goes on as the plan of its device says. -/
theorem words_run (c : Dev nD) (Q : PUnit → sProp 𝕄) :
    iprop(metaP c ∗ (metaP c -∗ run c (ringP xM wM outM comM (scr 0) (scr 1) (scr 2) (scr 3) (ringPlan c)) Q))
      ⊢ run c (ringBody xM wM metaM outM comM (scr 0) (scr 1) (scr 2) (scr 3)) Q := by
  unfold ringBody
  iintro ⟨Hm, Hk⟩
  iapply (word_step c Q 0 (word0 c) (metaOf_at c).1 ![0] inb_S3_S1_0 (fun a => by revert a; decide))
  isplitl [Hm]; · iexact Hm
  iintro Hm
  iapply (wp_assume Variants.none (c : Thread nD τ) none Set.univ (chk1 c))
  iapply (word_step c Q 1 (word1 c) (metaOf_at c).2.1 ![1] inb_S3_S1_1 (fun a => by revert a; decide))
  isplitl [Hm]; · iexact Hm
  iintro Hm
  iapply (wp_assume Variants.none (c : Thread nD τ) none Set.univ (chk2 c))
  iapply (word_step c Q 2 (word2 c) (metaOf_at c).2.2 ![2] inb_S3_S1_2 (fun a => by revert a; decide))
  isplitl [Hm]; · iexact Hm
  iintro Hm
  iapply (wp_assume Variants.none (c : Thread nD τ) none Set.univ (chk3 c))
  rw [planOf_eq c]
  iapply Hk
  iexact Hm

/-! ## The proof data -/

variable (m : (b : Loc nD τ sig) → Buf (Elt F) b)

/-- The two operands of each device as launched. -/
def xOf (c : Dev nD) : Vec F S2048x128 .f32 := m ((c : Thread nD τ).loc main_arg0)
def wOf (c : Dev nD) : Vec F S128x2048 .f32 := m ((c : Thread nD τ).loc main_arg1)
/-- The result. -/
def res : FVec F S2048x2048 .f32 := outOf (fin (xOf m) (wOf m))

/-- Which semaphores the kernel has of its own. -/
abbrev osem (t : Fin 4 × Fin 15 × Fin 4) : SemLoc sig := .dma (dsem t.2.2 t.1 t.2.1)

/-- The ghost state of a device when its semaphores are open. -/
def Xk (c : Dev nD) : sProp 𝕄 :=
  iprop((∃ K, invs (xOf m) (wOf m) K) ∗ levAts L lv ∗ bars c ∗ bigSep Finset.univ (pends (F := F) c) ∗ bigSep Finset.univ (arr (F := F) c))
/-- What is left at the end. -/
def Yk (c : Dev nD) : sProp 𝕄 := semVal (barCell c) 0

def datA (c : Dev nD) : (w : Fin 4) → Buf (Elt F) ((cfg0.win w).arr.view.loc (c.tc : Thread nD τ)) :=
  fun w => Gen.V1 m c (Proc.devRef .tc (arrRef spec0 w))

/-- The staged operands before and after, the result after; the ghost state before, the counters after. -/
def dat0 (c : Dev nD) : Dat τ (Elt F) Unit ℕ UU ℕ cfg0 c where
  A := datA m c
  after w _ := match w with
    | ⟨0, _⟩ => xOf m c
    | ⟨1, _⟩ => wOf m c
    | ⟨2, _⟩ => metaOf c
    | ⟨3, _⟩ => res m
  Φ t := if t.val = 0 then iprop(Xk m c ∗ comAny c ∗ ∃ r, prngReg c r)
    else iprop(Yk c ∗ bigSep Finset.univ (zeros (F := F) c) ∗ comAny c ∗ ∃ r, prngReg c r)
  q _ := fullShare
  owed t := if t.val = 0 then O₀ c else 0

def pdats : (p : Fin 1) → (c : Dev nD) → Dat τ (Elt F) Unit ℕ UU ℕ (cfgs p) c
  | 0 => dat0 m

theorem Φ0 (c : Dev nD) : (dat0 m c).Φ Gen.t0_0.castSucc = iprop(Xk m c ∗ comAny c ∗ ∃ r, prngReg c r) := rfl
theorem Φ1 (c : Dev nD) : (dat0 m c).Φ Gen.t0_0.succ = iprop(Yk c ∗ bigSep Finset.univ (zeros (F := F) c) ∗ comAny c ∗ ∃ r, prngReg c r) := rfl
theorem owed_first (c : Dev nD) : (dat0 m c).owed Gen.t0_0.castSucc = O₀ c := rfl
theorem owed_last (c : Dev nD) : (dat0 m c).owed Gen.t0_0.succ = 0 := rfl

theorem A0 (c : Dev nD) : Gen.V1 m c (Proc.devRef .tc main_arg0) = xOf m c := Gen.V1_of m c main_arg0 (by decide)
theorem A1 (c : Dev nD) : Gen.V1 m c (Proc.devRef .tc main_arg1) = wOf m c := Gen.V1_of m c main_arg1 (by decide)

/-- Every window is all of its array. -/
theorem blk_read0 (G : Vec F S2048x128 .f32) : ((cfg0.win 0).blk Gen.t0_0).view.read (Elt F) G = G := by
  funext i
  rw [View.read_apply]
  refine congrArg G (funext fun a => Fin.ext ?_)
  fin_cases a
  · show 0 + 1 * (i 0).val = (i 0).val; omega
  · show 0 + 1 * (i 1).val = (i 1).val; omega
theorem blk_read1 (G : Vec F S128x2048 .f32) : ((cfg0.win 1).blk Gen.t0_0).view.read (Elt F) G = G := by
  funext i
  rw [View.read_apply]
  refine congrArg G (funext fun a => Fin.ext ?_)
  fin_cases a
  · show 0 + 1 * (i 0).val = (i 0).val; omega
  · show 0 + 1 * (i 1).val = (i 1).val; omega
theorem blk_read2 (G : IVec S3 32) : ((cfg0.win 2).blk Gen.t0_0).view.read (Elt F) G = G := by
  funext i
  rw [View.read_apply]
  refine congrArg G (funext fun a => Fin.ext ?_)
  fin_cases a
  show 0 + 1 * (i 0).val = (i 0).val; omega
theorem blk_emb3 (i : S2048x2048.Idx) : ((cfg0.win 3).blk Gen.t0_0).view.emb i = i := by
  refine funext fun a => Fin.ext ?_
  fin_cases a
  · show 0 + 1 * (i 0).val = (i 0).val; omega
  · show 0 + 1 * (i 1).val = (i 1).val; omega

/-- What the body finds staged. -/
theorem before0 (c : Dev nD) (d) : (dat0 m c).before 0 Gen.t0_0 d = xOf m c := by
  unfold Dat.before; rw [if_pos (Gen.fetch0_0 _)]
  refine Eq.trans ?_ (blk_read0 (xOf m c))
  rw [← A0]; rfl
theorem before1 (c : Dev nD) (d) : (dat0 m c).before 1 Gen.t0_0 d = wOf m c := by
  unfold Dat.before; rw [if_pos (Gen.fetch0_1 _)]
  refine Eq.trans ?_ (blk_read1 (wOf m c))
  rw [← A1]; rfl
theorem before2 (c : Dev nD) (d) : (dat0 m c).before 2 Gen.t0_0 d = metaOf c := by
  unfold Dat.before; rw [if_pos (Gen.fetch0_2 _)]
  refine Eq.trans ?_ (blk_read2 (metaOf c))
  rw [← V1_words m c]; rfl

/-- The result's array at the end. -/
theorem final3 (c : Dev nD) : (dat0 m c).arrAt 3 cfg0.N = res m := by
  refine Dat.arrAt_eq_of_cover (dat0 m c) 3 (res m) (fun t _ => ?_) (fun i => ⟨Gen.t0_0, Gen.flush0_3 _, ?_⟩)
  · obtain rfl := Gen.fin_N0 t
    funext i
    rw [View.read_apply]
    exact congrArg (res m) (blk_emb3 i).symm
  · have := ((cfg0.win 3).blk Gen.t0_0).view.emb_mem_set i
    rwa [blk_emb3] at this

/-! ## The body -/

theorem owesAt_intro (c : Dev nD) (t : Fin (cfg0.N + 1)) (O : CellTallies nD τ sig Unit) (h : (dat0 m c).owed t = O) :
    iprop(∃ W, owes (c : Thread nD τ) O W) ⊢ ((dat0 m c).owesAt () t : sProp 𝕄) := by
  unfold Dat.owesAt Pipeline.owesWithin Dat.bound; rw [h]
  iintro ⟨%W, HO⟩; iexists W; isplitr; · ipureintro; exact fun _ _ => Or.inl trivial
  iexact HO
theorem owesAt_elim (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin; rw [h]
  iintro ⟨%W, -, HO⟩; iexists W; iexact HO

theorem body (c : Dev nD) : BodyObligation (dat0 m c) (defs₀ (F := F)) Variants.none () Set.univ := fun t => by
  obtain rfl := Gen.fin_N0 t
  rw [Gen.bigSep_W0, Gen.bigSep_W0]
  simp only [owns_whole_eq]
  rw [Φ0, Φ1]
  unfold Xk Yk
  iintro ⟨⟨⟨⟨%K, #HI⟩, #Hlev, Hb, Hp, Ha⟩, Hc, Hreg⟩, HO, ⟨%d0, %f0, %hf0, H0⟩, ⟨%d1, %f1, %hf1, H1⟩, ⟨%d2, %f2, %hf2, H2⟩, ⟨%d3, %f3, -, H3⟩⟩
  rw [before0] at hf0; rw [before1] at hf1; rw [before2] at hf2
  subst hf0 hf1 hf2
  ihave HO' := (owesAt_elim m c _ (O₀ c) (owed_first m c)) $$ HO
  iapply (Entails.of_eq (show run c (cc0_body (F := F) xM (hstage0_0 0) wM (hstage0_1 0) metaM (hstage0_2 0) outM (hstage0_3 0) comM (Memref.isWhole_whole _) (scr 0) (scr 1) (scr 2) (scr 3)) _ = _ from rfl))
  rw [body_eq]
  iapply (words_run c _)
  isplitl [H2]; · unfold metaP; iexact H2
  iintro H2
  iapply (ring_run (xOf m) (wOf m) K c _)
  isplitl [H0 H1 H3 Hb Hp Ha Hc HO']
  · unfold bodyPre
    isplitr; · iexact HI
    isplitr; · iexact Hlev
    isplitl [H0 H1]
    · unfold xw; isplitl [H0] <;> iassumption
    isplitl [Hc]; · iexact Hc
    isplitl [H3]; · unfold outAny; iexists _; iexact H3
    isplitl [Hb]; · iexact Hb
    isplitl [Hp]; · iexact Hp
    isplitl [Ha]; · iexact Ha
    iexact HO'
  unfold bodyPost xw outFin metaP
  iintro ⟨⟨H0, H1⟩, Hc, H3, Hb0, Hz, HO⟩
  isplitl [Hb0 Hz Hc Hreg]
  · isplitl [Hb0]; · iexact Hb0
    isplitl [Hz]; · iexact Hz
    isplitl [Hc]; · iexact Hc
    iexact Hreg
  isplitl [HO]; · iapply (owesAt_intro m c _ 0 (owed_last m c)); iexact HO
  isplitl [H0]
  · iexists _; isplitr; swap; · iexact H0
    ipureintro; dsimp only [dat0]
  isplitl [H1]
  · iexists _; isplitr; swap; · iexact H1
    ipureintro; dsimp only [dat0]
  isplitl [H2]
  · iexists _; isplitr; swap; · iexact H2
    ipureintro; dsimp only [dat0]
  · iexists _; isplitr; swap; · iexact H3
    ipureintro; dsimp only [dat0]; rfl

end Cert.Ring
-- ==== Proof.Talk.lean ====
/- The kernel call as one step of the program: what the launch deals each device, the semaphores opened on entry and
   found at zero on leaving, and the record of the call. -/
module

public import proofs.«01_k».proof.Proof.Region

@[expose] public section

noncomputable section

namespace Cert.Ring

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-! ## Before the semaphores are open -/

/-- The tokens and the credit of one hop. -/
def seed (c : Dev nD) (b : Bool) (r : Fin 4) (s : Fin 15) : sProp 𝕄 :=
  iprop(dutyTok ER (cell (kS b) r s c) 0 false ∗ dutyTok ER (cell (kR b) r s (tgt r c)) 0 false
    ∗ cred (tallyAt (cell (kR b) r s c) () N))
/-- Those of both hops on one pair of semaphores, and the four rights to open. -/
def dorm (c : Dev nD) (r : Fin 4) (s : Fin 15) : sProp 𝕄 :=
  iprop((seed c false r s ∗ seed c true r s) ∗ bigSep Finset.univ fun k : Fin 4 => openTok ER (cell k r s c))
/-- Those of a device. -/
def dorms (c : Dev nD) : sProp 𝕄 := bigSep Finset.univ fun r : Fin 4 => bigSep Finset.univ fun s : Fin 15 => dorm c r s

section
variable (x : Dev nD → Vec F S2048x128 .f32) (w : Dev nD → Vec F S128x2048 .f32) (K : GSem nD τ sig → ℕ) (c : Dev nD)

theorem open_one (k r : Fin 4) (s : Fin 15) :
    iprop(invs x w K ∗ (openTok ER (cell k r s c) ∗ semVal (cell k r s c) 0))
      ⊢ (|={Set.univ}=> (atPos ER (cell k r s c) 0 ∅ 0 ∗ reached ER (cell k r s c) 0) : sProp 𝕄) := by
  iintro ⟨#HI, Ho, Hv⟩
  iapply (Rounds.cell_open ER (rd x w) (g := cell k r s c) (Set.mem_univ (K (cell k r s c))))
  isplitr; · iapply (inv_dma x w K k r s c); iexact HI
  isplitl [Ho] <;> iassumption

theorem open_hop (r : Fin 4) (s : Fin 15) :
    iprop(invs x w K ∗ (dorm c r s ∗ bigSep Finset.univ fun k : Fin 4 => semVal (cell k r s c) 0))
      ⊢ (|={Set.univ}=> ((pend c false r s ∗ pend c true r s) ∗ (reached ER (cell 1 r s c) 0 ∗ reached ER (cell 3 r s c) 0)) : sProp 𝕄) := by
  unfold dorm
  rw [four, four]
  iintro ⟨#HI, ⟨⟨Ha, Hb⟩, Ho0, Ho1, Ho2, Ho3⟩, Hv0, Hv1, Hv2, Hv3⟩
  imod (open_one x w K c 0 r s) $$ [Ho0 Hv0] with ⟨Hp0, #Hr0⟩
  · isplitr; · iexact HI
    isplitl [Ho0] <;> iassumption
  imod (open_one x w K c 1 r s) $$ [Ho1 Hv1] with ⟨Hp1, #Hr1⟩
  · isplitr; · iexact HI
    isplitl [Ho1] <;> iassumption
  imod (open_one x w K c 2 r s) $$ [Ho2 Hv2] with ⟨Hp2, #Hr2⟩
  · isplitr; · iexact HI
    isplitl [Ho2] <;> iassumption
  imod (open_one x w K c 3 r s) $$ [Ho3 Hv3] with ⟨Hp3, #Hr3⟩
  · isplitr; · iexact HI
    isplitl [Ho3] <;> iassumption
  imodintro
  unfold seed pend
  icases Ha with ⟨Ha0, Ha1, Ha2⟩
  icases Hb with ⟨Hb0, Hb1, Hb2⟩
  isplitl
  · isplitl [Ha0 Ha1 Ha2 Hp0 Hp1]
    · isplitl [Ha0]; · iexact Ha0
      isplitr; · iexact Hr0
      isplitl [Ha1]; · iexact Ha1
      isplitl [Hp0]; · iexact Hp0
      isplitl [Hp1]; · iexact Hp1
      iexact Ha2
    · isplitl [Hb0]; · iexact Hb0
      isplitr; · iexact Hr2
      isplitl [Hb1]; · iexact Hb1
      isplitl [Hp2]; · iexact Hp2
      isplitl [Hp3]; · iexact Hp3
      iexact Hb2
  isplitr; · iexact Hr1
  iexact Hr3

theorem open_ring (r : Fin 4) :
    iprop(invs x w K ∗ ((bigSep Finset.univ fun s : Fin 15 => dorm c r s) ∗ zeros c r))
      ⊢ (|={Set.univ}=> (pends c r ∗ arr c r) : sProp 𝕄) := by
  unfold zeros pends arr
  rw [← bigSep_sep', ← bigSep_sep']
  exact (bigSep_with_persistent (Ψ := fun s : Fin 15 => iprop(|={Set.univ}=> ((pend c false r s ∗ pend c true r s)
    ∗ (reached ER (cell 1 r s c) 0 ∗ reached ER (cell 3 r s c) 0)))) fun s _ => open_hop x w K c r s).trans (bigSep_fupd _ _)

/-- All of a device's semaphores opened. -/
theorem open_rings :
    iprop(invs x w K ∗ (dorms c ∗ bigSep Finset.univ (zeros (F := F) c)))
      ⊢ (|={Set.univ}=> (bigSep Finset.univ (pends (F := F) c) ∗ bigSep Finset.univ (arr (F := F) c)) : sProp 𝕄) := by
  unfold dorms
  rw [← bigSep_sep', ← bigSep_sep']
  exact (bigSep_with_persistent (Ψ := fun r : Fin 4 => iprop(|={Set.univ}=> (pends c r ∗ arr c r)))
    fun r _ => open_ring x w K c r).trans (bigSep_fupd _ _)

theorem ownSems_eq : (ownSems0 osem c : sProp 𝕄) = bigSep Finset.univ (zeros (F := F) c) := by
  unfold ownSems0
  rw [bigSep_univ_prod]
  exact bigSep_congr fun r _ => by unfold zeros; rw [bigSep_univ_prod]
end

/-! ## The record of the call -/

variable (m : (b : Loc nD τ sig) → Buf (Elt F) b)

/-- What the launch deals a device. -/
def Tk (c : Dev nD) : sProp 𝕄 := iprop((∃ K, invs (xOf m) (wOf m) K) ∗ bars c ∗ dorms c)

theorem hopen (c : Dev nD) : iprop(Tk m c ∗ ownSems0 osem c ∗ levAts L lv) ⊢ (|={Set.univ}=> Xk m c : sProp 𝕄) := by
  rw [ownSems_eq]
  unfold Tk Xk
  iintro ⟨⟨⟨%K, #HI⟩, Hb, Hd⟩, Hz, #Hlev⟩
  imod (open_rings (xOf m) (wOf m) K c) $$ [Hd Hz] with ⟨Hp, Ha⟩
  · isplitr; · iexact HI
    isplitl [Hd] <;> iassumption
  imodintro
  isplitr; · iexists K; iexact HI
  isplitr; · iexact Hlev
  isplitl [Hb]; · iexact Hb
  isplitl [Hp] <;> iassumption

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(scopedRest spec0 c ∗ (∃ r, prngReg c r) ∗ StableHlo.held (c.tc : Thread nD τ) ∅ (Gen.V1 m c) ∗ Xk m c)
    ⊢ (dat0 m c).Φ 0 := by
  rw [show (dat0 m c).Φ 0 = iprop(Xk m c ∗ comAny c ∗ ∃ r, prngReg c r) from rfl, Gen.scopedRest0_eq]
  unfold comAny
  iintro ⟨Hs, Hp, -, HX⟩
  isplitl [HX]; · iexact HX
  isplitl [Hs] <;> iassumption

theorem hout (c : Dev nD) (W : Valuation τ sig (Elt F)) : (dat0 m c).Φ (Fin.last cfg0.N)
    ⊢ iprop(scopedRest spec0 c ∗ (∃ r, prngReg c r) ∗ StableHlo.held (c.tc : Thread nD τ) ∅ W ∗ ownSems0 osem c ∗ Yk c) := by
  rw [show (dat0 m c).Φ (Fin.last cfg0.N) = iprop(Yk c ∗ bigSep Finset.univ (zeros (F := F) c) ∗ comAny c ∗ ∃ r, prngReg c r) from rfl,
    Gen.scopedRest0_eq, held_none, ownSems_eq]
  unfold comAny
  iintro ⟨HY, Hz, Hs, Hp⟩
  isplitl [Hs]; · iexact Hs
  isplitl [Hp]; · iexact Hp
  isplitr; · iempintro
  isplitl [Hz] <;> iassumption

/-! ### Levels -/

theorem O₀_pos (c : Dev nD) (g : GSem nD τ sig) (u : Unit) (h : 0 < O₀ c g u) : u ∈ L g ∧ (0 : ℕ) < lv g u := by
  unfold O₀ at h
  simp only [Pi.add_apply, Finsupp.add_apply] at h
  have bar : ∀ d, 0 < (tallyAt (barCell d) () 1 : CellTallies nD τ sig Unit) g u → u ∈ L g ∧ (0 : ℕ) < lv g u := fun d h => by
    rw [tallyAt_apply] at h
    split at h
    · next hg => rw [hg.1]; exact ⟨by rw [L_tc]; exact Finset.mem_singleton_self _, Nat.one_pos⟩
    · exact absurd h (Nat.lt_irrefl 0)
  rcases Nat.add_pos_iff_pos_or_pos.mp h with h | h
  · rcases Nat.add_pos_iff_pos_or_pos.mp h with h | h
    · obtain ⟨r, s, ⟨rfl, -⟩ | ⟨rfl, -⟩⟩ := Ow_pos c _ g u h
      · exact ⟨by rw [L_tc]; exact Finset.mem_singleton_self _, by rw [lv_dma, if_pos rfl]; omega⟩
      · exact ⟨by rw [L_tc]; exact Finset.mem_singleton_self _, by rw [lv_dma, if_neg (by decide), if_pos rfl]; omega⟩
    · exact bar _ h
  · exact bar _ h

theorem stage_none : ∀ (w : Fin 4) (s : Fin (cfg0.win w).nbuf), dec ((cfg0.win w).sem s) = none := by decide

theorem cut : LevelCutOwed (pcfgs (F := F)) Gen.adm (pdats m) () L lv 0 (fun _ => 0) where
  hι c w s := by rw [L_tc]; exact Finset.mem_singleton_self _
  hιb c w s := by
    show (match dec ((cfg0.win w).sem s) with
      | some (k, _, s) => if k = 1 then 2 + s.val else if k = 3 then 17 + s.val else 0
      | none => 0) ≤ 0
    rw [stage_none]
  hD c t g i h := by
    have e : (pdats m 0 c).owed t = if t.val = 0 then O₀ c else 0 := rfl
    rw [e] at h
    split at h
    · exact O₀_pos c g i h
    · exact absurd h (Nat.lt_irrefl 0)

theorem osem_ok : OwnSemFacts spec0 osem where
  isScoped := by decide
  inj t u h := by
    have e : dsem t.2.2 t.1 t.2.1 = dsem u.2.2 u.1 u.2.1 := SemLoc.dma.inj h
    have e' := congrArg dec e
    rw [dec_dsem, dec_dsem] at e'
    obtain ⟨r, s, k⟩ := t
    obtain ⟨r', s', k'⟩ := u
    simp only [Option.some.injEq, Prod.mk.injEq] at e'
    obtain ⟨rfl, rfl, rfl⟩ := e'
    rfl
  disj t w s h := by
    have e : dsem t.2.2 t.1 t.2.1 = (cfg0.win w).sem s := SemLoc.dma.inj h
    have := stage_none w s
    rw [← e, dec_dsem] at this
    exact absurd this (by simp)

/-- What the buffers hold in the end. -/
abbrev Vend (c : Dev nD) : Valuation τ sig (Elt F) := Function.update (Gen.V1 m c) main_v24 (res m)

theorem Vend_of (c : Dev nD) (r : Ref sig .tc) (h : r ≠ main_v24) : Vend m c (Proc.devRef .tc r) = Gen.V1 m c (Proc.devRef .tc r) :=
  Function.update_of_ne (StableHlo.devRef_ne_of_ne h) _ _
theorem Vend_res (c : Dev nD) : Vend m c (Proc.devRef .tc main_v24) = res m := Function.update_self _ _ _

theorem arr_start (c : Dev nD) (w : Fin 4) : (dat0 m c).arrAt w 0 = Gen.V1 m c (Proc.devRef .tc (arrRef spec0 w)) := rfl

theorem arr_end (c : Dev nD) (w : Fin 4) : (dat0 m c).arrAt w cfg0.N = Vend m c (Proc.devRef .tc (arrRef spec0 w)) := by
  have hin (w : Fin 4) (h : (cfg0.win w).isOut = false) (hne : arrRef spec0 w ≠ main_v24) :
      (dat0 m c).arrAt w cfg0.N = Vend m c (Proc.devRef .tc (arrRef spec0 w)) :=
    (Dat.arrAt_in (dat0 m c) w h _).trans (Vend_of m c _ hne).symm
  match w with
  | ⟨0, _⟩ => exact hin 0 (by decide) (by decide)
  | ⟨1, _⟩ => exact hin 1 (by decide) (by decide)
  | ⟨2, _⟩ => exact hin 2 (by decide) (by decide)
  | ⟨3, _⟩ => exact (final3 m c).trans (Vend_res m c).symm

/-- The buffers that are no operand of the call. -/
abbrev restRefs : Finset (DevRef τ sig) := ucRefs τ sig \ arrRefs (τ := τ) spec0

theorem arr_sub : arrRefs (τ := τ) spec0 ⊆ ucRefs τ sig := arrRefs_sub_ucRefs spec0 (by decide)

theorem rest_same (c : Dev nD) : ∀ b ∈ restRefs \ ∅, Vend m c b = Gen.V1 m c b := fun b hb => by
  refine Function.update_of_ne (fun h => ?_) _ _
  have := (Finset.mem_sdiff.mp (Finset.mem_sdiff.mp hb).1).2
  refine this ?_
  rw [h]
  exact Finset.mem_map_of_mem _ (Finset.mem_image_of_mem (arrRef spec0) (Finset.mem_univ (3 : Fin 4)))

set_option backward.isDefEq.respectTransparency.types false in
/-- The call. -/
def call : RegionSeg (pcfgs (F := F)) Gen.adm (pdats m) () defs₀ Variants.none L lv 0 :=
  RegionSeg.ofTalk (pcfgs (F := F)) Gen.adm (pdats m) () defs₀ Variants.none L lv 0 osem osem_ok
    ∅ restRefs (Finset.empty_subset _) Gen.launch0.toP rfl (fun c => (body m c).loose)
    (fun _ => 0) O₀ (fun c => (zero_add _).symm) (fun _ => rfl) (fun _ => rfl)
    (fun c w => Dat.share_full (dat0 m c) (fun _ => rfl) w)
    (Gen.V1 m) (Vend m) (rest_same m)
    (Tk m) Yk (Xk m) Yk (hopen m) (hin m) (fun c => hout m c (Vend m c))
    (fun c => by iintro H; imodintro; iexact H)
    (fun _ => 0) (cut m) (fun _ => iprop(emp))
    (arr_start m) (arr_end m)

/-- A device before the call: its buffers, what the launch dealt it, and what it owes. -/
theorem call_pre (c : Dev nD) :
    iprop(StableHlo.held (c : Thread nD τ) (ucRefs τ sig) (Gen.V1 m c) ∗ Tk m c ∗ (∃ r, prngReg c r) ∗ ∃ W, owes (c : Thread nD τ) (O₀ c) W)
      ⊢ (call m).pre c := by
  show _ ⊢ iprop(StableHlo.held (c.tc : Thread nD τ) (arrRefs (τ := τ) spec0) (Gen.V1 m c) ∗ (∃ r, prngReg c r)
    ∗ (StableHlo.held (c.tc : Thread nD τ) restRefs (Gen.V1 m c) ∗ emp) ∗ Tk m c ∗ ∃ Wd, owes (c : Thread nD τ) (0 + O₀ c) Wd)
  rw [zero_add, StableHlo.held_sub_split (c : Thread nD τ) arr_sub (Gen.V1 m c)]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- And after it. -/
theorem call_post (c : Dev nD) : (call m).post c
    ⊢ iprop((StableHlo.held (c : Thread nD τ) (ucRefs τ sig) (Vend m c) ∗ semVal (barCell c) 0)
      ∗ ∃ W, owes (c : Thread nD τ) (0 : CellTallies nD τ sig Unit) W) := by
  show iprop(StableHlo.held (c.tc : Thread nD τ) (arrRefs (τ := τ) spec0) (Vend m c) ∗ (∃ r, prngReg c r)
    ∗ (StableHlo.held (c.tc : Thread nD τ) restRefs (Vend m c) ∗ emp) ∗ Yk c ∗ ∃ Wd, owes (c : Thread nD τ) (0 : CellTallies nD τ sig Unit) Wd) ⊢ _
  rw [StableHlo.held_sub_split (c : Thread nD τ) arr_sub (Vend m c)]
  unfold Yk
  iintro ⟨Ha, -, ⟨Hr, -⟩, Hb, HO⟩
  isplitr [HO]
  · isplitr [Hb]
    · isplitl [Ha] <;> iassumption
    iexact Hb
  iexact HO

end Cert.Ring
-- ==== Proof.Deal.lean ====
/- The launch: every semaphore's protocol set up, and the tokens and the credit dealt to the devices that use them. -/
module

public import proofs.«01_k».proof.Proof.Talk

@[expose] public section

noncomputable section

namespace Cert.Ring

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-! ## The cells and the duties -/

theorem cell_inj {k k' r r' : Fin 4} {s s' : Fin 15} {c c' : Dev nD} (h : cell k r s c = cell k' r' s' c') :
    k = k' ∧ r = r' ∧ s = s' ∧ c = c' := by
  have e : dsem k r s = dsem k' r' s' := SemLoc.dma.inj (congrArg Prod.snd h)
  have e' := congrArg dec e
  rw [dec_dsem, dec_dsem] at e'
  simp only [Option.some.injEq, Prod.mk.injEq] at e'
  exact ⟨e'.1, e'.2.1, e'.2.2, congrArg (fun g : GSem nD τ sig => g.1.1) h⟩

/-- Which transfer semaphore. -/
abbrev Ix4 : Type := Fin 4 × Fin 4 × Fin 15 × Dev nD
abbrev cellAt (t : Ix4) : GSem nD τ sig := cell t.1 t.2.1 t.2.2.1 t.2.2.2

theorem cellAt_inj : Function.Injective cellAt := fun _ _ h =>
  have e := cell_inj h
  Prod.ext e.1 (Prod.ext e.2.1 (Prod.ext e.2.2.1 e.2.2.2))

def barEmb : Dev nD ↪ GSem nD τ sig := ⟨fun c => barCell c, fun _ _ h => congrArg (fun g : GSem nD τ sig => g.1.1) h⟩
def dmaEmb : Ix4 ↪ GSem nD τ sig := ⟨cellAt, cellAt_inj⟩
abbrev barCells : Finset (GSem nD τ sig) := Finset.univ.map barEmb
abbrev dmaCells : Finset (GSem nD τ sig) := Finset.univ.map dmaEmb

theorem cells_disjoint : Disjoint (barCells : Finset (GSem nD τ sig)) dmaCells := by
  rw [Finset.disjoint_left]
  rintro g h₁ h₂
  obtain ⟨c, -, rfl⟩ := Finset.mem_map.mp h₁
  obtain ⟨t, -, h⟩ := Finset.mem_map.mp h₂
  exact absurd (congrArg Prod.snd h) (by intro h; cases h)

def barDuty : Bool × Dev nD ↪ GSem nD τ sig × ℕ × Bool :=
  ⟨fun t => (barCell t.2, 0, t.1), fun _ _ h =>
    Prod.ext (congrArg (fun u : GSem nD τ sig × ℕ × Bool => u.2.2) h) (congrArg (fun u : GSem nD τ sig × ℕ × Bool => u.1.1.1) h)⟩
def dmaDuty : Ix4 ↪ GSem nD τ sig × ℕ × Bool :=
  ⟨fun t => (cellAt t, 0, false), fun _ _ h => cellAt_inj (congrArg (fun u : GSem nD τ sig × ℕ × Bool => u.1) h)⟩

theorem duties_disjoint : Disjoint (Finset.univ.map barDuty) (Finset.univ.map dmaDuty) := by
  rw [Finset.disjoint_left]
  rintro g h₁ h₂
  obtain ⟨c, -, rfl⟩ := Finset.mem_map.mp h₁
  obtain ⟨t, -, h⟩ := Finset.mem_map.mp h₂
  exact absurd (congrArg (fun u : GSem nD τ sig × ℕ × Bool => u.1.2) h) (by intro h; cases h)

/-- Every duty. -/
def allToks : Finset (GSem nD τ sig × ℕ × Bool) := Finset.univ.map barDuty ∪ Finset.univ.map dmaDuty

/-! ## Dealing -/

/-- Device and hop, against hop and the device it lands on. -/
def landEquiv : (Dev nD × Fin 4 × Fin 15) ≃ (Fin 4 × Fin 15 × Dev nD) where
  toFun t := (t.2.1, t.2.2, tgt t.2.1 t.1)
  invFun t := (src t.1 t.2.2, t.1, t.2.1)
  left_inv t := Prod.ext (src_tgt t.2.1 t.1) rfl
  right_inv t := Prod.ext rfl (Prod.ext rfl (tgt_src t.1 t.2.2))
def ownEquiv : (Dev nD × Fin 4 × Fin 15) ≃ (Fin 4 × Fin 15 × Dev nD) where
  toFun t := (t.2.1, t.2.2, t.1)
  invFun t := (t.2.2, t.1, t.2.1)
  left_inv _ := rfl
  right_inv _ := rfl

/-- Over every device, ring and hop. -/
abbrev each (D : Dev nD → Fin 4 → Fin 15 → sProp 𝕄) (c : Dev nD) : sProp 𝕄 :=
  bigSep Finset.univ fun r : Fin 4 => bigSep Finset.univ fun s : Fin 15 => D c r s

theorem deal_own (D : Fin 4 × Fin 15 × Dev nD → sProp 𝕄) :
    bigSep Finset.univ D = bigSep Finset.univ (each fun c r s => D (r, s, c)) := by
  rw [bigSep_univ_equiv ownEquiv, bigSep_univ_prod]
  exact bigSep_congr fun c _ => bigSep_univ_prod _
theorem deal_land (D : Fin 4 × Fin 15 × Dev nD → sProp 𝕄) :
    bigSep Finset.univ D = bigSep Finset.univ (each fun c r s => D (r, s, tgt r c)) := by
  rw [bigSep_univ_equiv landEquiv, bigSep_univ_prod]
  exact bigSep_congr fun c _ => bigSep_univ_prod _

theorem each_sep (D E : Dev nD → Fin 4 → Fin 15 → sProp 𝕄) (c : Dev nD) :
    (each (fun c r s => iprop(D c r s ∗ E c r s)) c) = iprop(each D c ∗ each E c) := by
  unfold each
  rw [← bigSep_sep']
  exact bigSep_congr fun r _ => bigSep_sep' _ _ _

/-- The tokens of the hops a device sends. -/
def hopToks (c : Dev nD) (r : Fin 4) (s : Fin 15) : sProp 𝕄 :=
  iprop(dutyTok ER (cell 0 r s c) 0 false ∗ dutyTok ER (cell 1 r s (tgt r c)) 0 false
    ∗ dutyTok ER (cell 2 r s c) 0 false ∗ dutyTok ER (cell 3 r s (tgt r c)) 0 false)
/-- The credit of the hops it receives. -/
def hopCreds (c : Dev nD) (r : Fin 4) (s : Fin 15) : sProp 𝕄 :=
  iprop(cred (tallyAt (cell 1 r s c) () N) ∗ cred (tallyAt (cell 3 r s c) () N))
/-- Its rights to open. -/
def hopOpens (c : Dev nD) (r : Fin 4) (s : Fin 15) : sProp 𝕄 := bigSep Finset.univ fun k : Fin 4 => openTok ER (cell k r s c)
/-- The tokens of its two signals. -/
def barToks (c : Dev nD) : sProp 𝕄 :=
  iprop(dutyTok ER (barCell (nxt c)) 0 true ∗ dutyTok ER (barCell (prv c)) 0 false)

theorem toks_dma :
    bigSep Finset.univ (fun t : Ix4 => (dutyTok ER (cellAt t) 0 false : sProp 𝕄)) = bigSep Finset.univ (each (F := F) hopToks) := by
  rw [bigSep_univ_prod, four]
  rw [deal_own (fun t => dutyTok ER (cellAt (0, t)) 0 false), deal_land (fun t => dutyTok ER (cellAt (1, t)) 0 false),
    deal_own (fun t => dutyTok ER (cellAt (2, t)) 0 false), deal_land (fun t => dutyTok ER (cellAt (3, t)) 0 false),
    ← bigSep_sep', ← bigSep_sep', ← bigSep_sep']
  exact bigSep_congr fun c _ => by unfold hopToks; rw [each_sep, each_sep, each_sep]

theorem opens_dma :
    bigSep Finset.univ (fun t : Ix4 => (openTok ER (cellAt t) : sProp 𝕄)) = bigSep Finset.univ (each (F := F) hopOpens) := by
  rw [bigSep_univ_prod, four]
  rw [deal_own (fun t => openTok ER (cellAt (0, t))), deal_own (fun t => openTok ER (cellAt (1, t))),
    deal_own (fun t => openTok ER (cellAt (2, t))), deal_own (fun t => openTok ER (cellAt (3, t))),
    ← bigSep_sep', ← bigSep_sep', ← bigSep_sep']
  refine bigSep_congr fun c _ => ?_
  rw [← each_sep, ← each_sep, ← each_sep]
  refine bigSep_congr fun r _ => bigSep_congr fun s _ => ?_
  unfold hopOpens; rw [four]

def nxtEquiv : Dev nD ≃ Dev nD := ⟨nxt, prv, prv_nxt, nxt_prv⟩

theorem toks_bar :
    bigSep Finset.univ (fun t : Bool × Dev nD => (dutyTok ER (barCell t.2) 0 t.1 : sProp 𝕄)) = bigSep Finset.univ (barToks (F := F)) := by
  rw [bigSep_univ_prod, show (Finset.univ : Finset Bool) = insert true {false} by decide, bigSep_insert (by decide), bigSep_singleton]
  dsimp only
  rw [bigSep_univ_equiv nxtEquiv (fun c => (dutyTok ER (barCell c) 0 true : sProp 𝕄)),
    bigSep_univ_equiv nxtEquiv.symm (fun c => (dutyTok ER (barCell c) 0 false : sProp 𝕄))]
  exact (bigSep_sep' _ _ _).symm

theorem toks_eq :
    bigSep allToks (fun u => (dutyTok ER u.1 u.2.1 u.2.2 : sProp 𝕄)) = iprop(bigSep Finset.univ (barToks (F := F)) ∗ bigSep Finset.univ (each (F := F) hopToks)) := by
  unfold allToks
  rw [bigSep_union duties_disjoint, bigSep_map, bigSep_map, ← toks_bar, ← toks_dma]
  rfl

theorem dorm_intro (c : Dev nD) (r : Fin 4) (s : Fin 15) :
    iprop(hopToks c r s ∗ hopCreds c r s ∗ hopOpens c r s) ⊢ (dorm c r s : sProp 𝕄) := by
  unfold hopToks hopCreds hopOpens dorm seed
  iintro ⟨⟨H0, H1, H2, H3⟩, ⟨C1, C3⟩, Ho⟩
  isplitr [Ho]
  · isplitl [H0 H1 C1]
    · isplitl [H0]; · iexact H0
      isplitl [H1]; · iexact H1
      iexact C1
    · isplitl [H2]; · iexact H2
      isplitl [H3]; · iexact H3
      iexact C3
  · iexact Ho

theorem dorms_intro (c : Dev nD) :
    iprop(each (F := F) hopToks c ∗ each (F := F) hopCreds c ∗ each (F := F) hopOpens c) ⊢ dorms c := by
  rw [← each_sep, ← each_sep]
  exact bigSep_mono fun r _ => bigSep_mono fun s _ => dorm_intro c r s

/-! ## The launch credit -/

theorem tl_at (k k' r r' : Fin 4) (s s' : Fin 15) (d c : Dev nD) :
    tl k' r' s' d (cell k r s c) () = if r' = r ∧ s' = s then (if k' = k ∧ d = src r c then N else 0) else 0 := by
  rw [tallyAt_apply]
  by_cases h : cell k r s c = cell k' r' s' (tgt r' d)
  · obtain ⟨rfl, rfl, rfl, rfl⟩ := cell_inj h
    rw [if_pos ⟨rfl, rfl⟩, if_pos ⟨rfl, rfl⟩, if_pos ⟨rfl, (src_tgt r d).symm⟩]
  · rw [if_neg fun e => h e.1]
    split
    · next e =>
      obtain ⟨rfl, rfl⟩ := e
      rw [if_neg]
      rintro ⟨rfl, rfl⟩
      exact h (by rw [tgt_src])
    · rfl

theorem Ow_at (b : Bool) (r : Fin 4) (s : Fin 15) (d c : Dev nD) :
    Ow d (fun _ => 0) (cell (kR b) r s c) () = if d = src r c then N else 0 := by
  let φ : CellTallies nD τ sig Unit →+ ℕ := ⟨⟨fun T => T (cell (kR b) r s c) (), rfl⟩, fun _ _ => rfl⟩
  show φ (Ow d fun _ => 0) = _
  unfold Ow
  rw [map_sum]
  simp only [map_sum, map_add, Nat.zero_le, if_true]
  have h : ∀ r' s', φ (tl 1 r' s' d) + φ (tl 3 r' s' d)
      = (fun _ _ => 0 : Fin 4 → Fin 15 → ℕ) r' s' + if r' = r ∧ s' = s then (if d = src r c then N else 0) else 0 := fun r' s' => by
    show tl 1 r' s' d (cell (kR b) r s c) () + tl 3 r' s' d (cell (kR b) r s c) () = _
    rw [tl_at, tl_at]
    cases b
    · simp [kR]
    · simp [kR]
  rw [sum_single _ _ _ r s h]
  simp

theorem Ow_bar (d c : Dev nD) (p : Fin 4 → ℕ) : Ow d p (barCell c) () = 0 := by
  by_contra h
  obtain ⟨r, s, ⟨e, -⟩ | ⟨e, -⟩⟩ := Ow_pos d p (barCell c) () (Nat.pos_of_ne_zero h) <;>
    exact absurd (congrArg Prod.snd e) (by intro h; cases h)

theorem bar_at (d c : Dev nD) : (tallyAt (barCell d) () 1 : CellTallies nD τ sig Unit) (barCell c) () = if d = c then 1 else 0 := by
  rw [tallyAt_apply]
  by_cases h : d = c
  · subst h; rw [if_pos ⟨rfl, rfl⟩, if_pos rfl]
  · rw [if_neg fun e => h (congrArg (fun g : GSem nD τ sig => g.1.1) e.1).symm, if_neg h]

theorem bar_not (d c : Dev nD) (k r : Fin 4) (s : Fin 15) : (tallyAt (barCell d) () 1 : CellTallies nD τ sig Unit) (cell k r s c) () = 0 := by
  rw [tallyAt_apply, if_neg fun e => absurd (congrArg Prod.snd e.1) (by intro h; cases h)]

theorem launch_bar (c : Dev nD) :
    tallyOn (barCell c) (launchCredit (owing O₀) 0 (barCell c)) = (tallyAt (barCell c) () 2 : CellTallies nD τ sig Unit) := by
  unfold tallyAt
  refine congrArg _ (Finsupp.ext fun u => ?_)
  rw [launchCredit_owing, Finsupp.single_eq_same]
  have h : ∀ d, O₀ d (barCell c) u = (if d = nxt c then 1 else 0) + (if d = prv c then 1 else 0) := fun d => by
    show Ow d _ (barCell c) () + (tallyAt (barCell (prv d)) () 1 : CellTallies nD τ sig Unit) (barCell c) ()
      + (tallyAt (barCell (nxt d)) () 1 : CellTallies nD τ sig Unit) (barCell c) () = _
    rw [Ow_bar, bar_at, bar_at, Nat.zero_add]
    have e1 : (prv d = c) = (d = nxt c) := propext ⟨fun h => by rw [← h, nxt_prv], fun h => by rw [h, prv_nxt]⟩
    have e2 : (nxt d = c) = (d = prv c) := propext ⟨fun h => by rw [← h, prv_nxt], fun h => by rw [h, nxt_prv]⟩
    simp only [e1, e2]
  rw [Finset.sum_congr rfl fun d _ => h d, Finset.sum_add_distrib, Finset.sum_ite_eq' Finset.univ, Finset.sum_ite_eq' Finset.univ,
    if_pos (Finset.mem_univ _), if_pos (Finset.mem_univ _)]

theorem launch_dma (b : Bool) (r : Fin 4) (s : Fin 15) (c : Dev nD) :
    tallyOn (cell (kR b) r s c) (launchCredit (owing O₀) 0 (cell (kR b) r s c)) = (tallyAt (cell (kR b) r s c) () N : CellTallies nD τ sig Unit) := by
  unfold tallyAt
  refine congrArg _ (Finsupp.ext fun u => ?_)
  rw [launchCredit_owing, Finsupp.single_eq_same]
  have h : ∀ d, O₀ d (cell (kR b) r s c) u = if d = src r c then N else 0 := fun d => by
    show Ow d _ (cell (kR b) r s c) () + (tallyAt (barCell (prv d)) () 1 : CellTallies nD τ sig Unit) (cell (kR b) r s c) ()
      + (tallyAt (barCell (nxt d)) () 1 : CellTallies nD τ sig Unit) (cell (kR b) r s c) () = _
    rw [Ow_at, bar_not, bar_not, Nat.add_zero]
  rw [Finset.sum_congr rfl fun d _ => h d, Finset.sum_ite_eq' Finset.univ, if_pos (Finset.mem_univ _)]

/-- The transfer semaphores of a device. -/
def osemEmb : Fin 4 × Fin 15 × Fin 4 ↪ SemLoc sig := ⟨osem, osem_ok.inj⟩

theorem odd_two (A B C D : sProp 𝕄) : iprop(A ∗ B ∗ C ∗ D) ⊢ iprop(B ∗ D) := by
  iintro ⟨-, H1, -, H3⟩
  isplitl [H1] <;> iassumption

theorem creds (c : Dev nD) :
    (launchCred O₀ c : sProp 𝕄) ⊢ iprop(cred (tallyAt (barCell c) () 2) ∗ each (F := F) hopCreds c) := by
  unfold launchCred
  rw [bigSep_univ_at _ (SemLoc.reg barS), launch_bar]
  refine sep_mono_right ?_
  have hsub : Finset.univ.map osemEmb ⊆ Finset.univ.erase (SemLoc.reg barS : SemLoc sig) := fun sm h => by
    obtain ⟨t, -, rfl⟩ := Finset.mem_map.mp h
    exact Finset.mem_erase.mpr ⟨(by intro h; cases h), Finset.mem_univ _⟩
  refine (bigSep_subset hsub).trans ?_
  rw [bigSep_map, bigSep_univ_prod]
  refine bigSep_mono fun r _ => ?_
  rw [bigSep_univ_prod]
  refine bigSep_mono fun s _ => ?_
  rw [four]
  unfold hopCreds
  rw [← launch_dma false, ← launch_dma true]
  exact odd_two _ _ _ _

end Cert.Ring
-- ==== Proof.Launch.lean ====
/- The run: every device's program from any memory, to the end. -/
module

public import proofs.«01_k».proof.Proof.Deal
public import proofs.«01_k».proof.Proof.Gen.KernelIdeal.Regions
public import Idealize.ShloMosaic.Lib.Quiescent

@[expose] public section

noncomputable section

namespace Cert.Ring

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (b : Loc nD τ sig) → Buf (Elt F) b) (ρ : Dev nD → PrngReg)

/-- The launch element of the protocol. -/
abbrev u₁ : URounds (GSem nD τ sig) Bool := launchOf barCells dmaCells allToks
/-- All of it is with device 0 until it is dealt. -/
def G (c : Dev nD) : sProp 𝕄 := if c = 0 then BI.own (ER u₁) else iprop(emp)

theorem G_all : bigSep Finset.univ (G (F := F)) = BI.own (ER u₁) := by
  have h : bigSep (Finset.univ.erase (0 : Dev nD)) (G (F := F)) = BI.emp := by
    rw [bigSep_congr (Ψ := fun _ => (BI.emp : sProp 𝕄)) fun c hc => by unfold G; exact if_neg (Finset.ne_of_mem_erase hc),
      BI.bigSep_emp_const]
  rw [bigSep_univ_at _ (0 : Dev nD), h]
  exact BI.equiv_iff.mp sep_emp

/-- What all devices know: every protocol's invariant, and that the barriers stand at their start. -/
def known (κ : GSem nD τ sig → ℕ) : sProp 𝕄 :=
  iprop((bigSep (barCells ∪ dmaCells) fun g => cellInv ER (rd (xOf m) (wOf m)) (κ g) g) ∗ bigSep barCells fun g => reached ER g 0)

instance (κ : GSem nD τ sig → ℕ) : BI.Persistent (known m κ) := by unfold known; infer_instance

theorem known_invs (κ : GSem nD τ sig → ℕ) :
    (bigSep (barCells ∪ dmaCells) fun g => (cellInv ER (rd (xOf m) (wOf m)) (κ g) g : sProp 𝕄)) ⊢ invs (xOf m) (wOf m) κ := by
  rw [bigSep_union cells_disjoint, bigSep_map, bigSep_map]
  unfold invs
  exact .rfl

theorem known_bar (c : Dev nD) : (bigSep barCells fun g => (reached ER g 0 : sProp 𝕄)) ⊢ reached ER (barCell c) 0 :=
  bigSep_elim (Finset.mem_map_of_mem barEmb (Finset.mem_univ c))

/-- What is a device's own of the ghost state. -/
def own (c : Dev nD) : sProp 𝕄 :=
  iprop(atPos ER (barCell c) 0 ∅ 0 ∗ each (F := F) hopOpens c ∗ barToks c ∗ each (F := F) hopToks c)
/-- And of the rest: its buffers, its credit, what it owes, its register. -/
def rest (c : Dev nD) : sProp 𝕄 :=
  iprop(StableHlo.held (c : Thread nD τ) (ucRefs τ sig) (Gen.V0 m c) ∗ (cred (tallyAt (barCell c) () 2) ∗ each (F := F) hopCreds c)
    ∗ owes (c : Thread nD τ) (O₀ c) ∅ ∗ ∃ r, prngReg c r)

/-- What rides beside the buffers to the call. -/
def ride (c : Dev nD) : sProp 𝕄 := iprop(Tk m c ∗ (∃ r, prngReg c r) ∗ ∃ W, owes (c : Thread nD τ) (O₀ c) W)

abbrev T₀ (c : Dev nD) : sProp 𝕄 := iprop(StableHlo.held (c : Thread nD τ) (ucRefs τ sig) (Gen.V0 m c) ∗ ride m c)
abbrev Tₙ (c : Dev nD) : sProp 𝕄 := iprop(StableHlo.held (c : Thread nD τ) (ucRefs τ sig) (Vend m c) ∗ semVal (barCell c) 0)

theorem T₀_intro (κ : GSem nD τ sig → ℕ) (c : Dev nD) : iprop(known m κ ∗ (own c ∗ rest m c)) ⊢ T₀ m c := by
  show _ ⊢ iprop(StableHlo.held (c : Thread nD τ) (ucRefs τ sig) (Gen.V0 m c) ∗ ride m c)
  unfold known own rest ride Tk bars barToks
  iintro ⟨⟨#HI, #HR⟩, ⟨Hat, Ho, ⟨HtN, HtP⟩, Ht⟩, Hh, ⟨HcB, Hc⟩, HO, Hp⟩
  isplitl [Hh]; · iexact Hh
  isplitr [Hp HO]
  · isplitr; · iexists κ; iapply (known_invs m κ); iexact HI
    isplitr [Ho Ht Hc]
    · isplitl [Hat]; · iexact Hat
      isplitl [HcB]; · iexact HcB
      isplitl [HtN]; · iexact HtN
      isplitr; · iapply (known_bar (F := F) (nxt c)); iexact HR
      isplitl [HtP]; · iexact HtP
      iapply (known_bar (F := F) (prv c)); iexact HR
    · iapply (dorms_intro c)
      isplitl [Ht]; · iexact Ht
      isplitl [Hc] <;> iassumption
  isplitl [Hp]; · iexact Hp
  iexists ∅; iexact HO

theorem unscoped_eq : ∀ sm : SemLoc sig, sm.isScoped .tc = false → sm = .reg barS := by decide

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's launch holdings, sorted. -/
theorem sort (c : Dev nD) :
    iprop(unscopedBufs c (fun b => m ((c.tc : Thread nD τ).loc b)) ∗ unscopedSems0 c
        ∗ owes (c : Thread nD τ) (O₀ c) ∅ ∗ launchCred O₀ c ∗ prngReg c (ρ c) ∗ G c)
      ⊢ (iprop(rest m c ∗ (semVal (barCell c) 0 ∗ G c)) : sProp 𝕄) := by
  rw [show unscopedBufs c (fun b => m ((c.tc : Thread nD τ).loc b)) = StableHlo.held (c : Thread nD τ) (ucRefs τ sig) (Gen.V0 m c)
    from unscopedBufs_held c (Gen.V0 m c), sems_eq]
  unfold rest
  iintro ⟨Hh, Hs, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hs] <;> iassumption

theorem sort_all :
    (bigSep Finset.univ fun c : Dev nD => iprop(unscopedBufs c (fun b => m ((c.tc : Thread nD τ).loc b)) ∗ unscopedSems0 c
        ∗ owes (c : Thread nD τ) (O₀ c) ∅ ∗ launchCred O₀ c ∗ prngReg c (ρ c) ∗ G c))
      ⊢ (iprop(bigSep Finset.univ (rest m) ∗ bigSep barCells (fun g => (semVal g 0 : sProp 𝕄)) ∗ BI.own (ER u₁)) : sProp 𝕄) := by
  refine (bigSep_mono fun c _ => sort m ρ c).trans ?_
  rw [bigSep_sep', bigSep_sep', G_all, bigSep_map]
  exact BI.Entails.refl _

theorem own_all :
    iprop(bigSep barCells (fun g => (atPos ER g 0 ∅ 0 : sProp 𝕄)) ∗ bigSep dmaCells (fun g => (openTok ER g : sProp 𝕄))
        ∗ bigSep allToks (fun u => (dutyTok ER u.1 u.2.1 u.2.2 : sProp 𝕄)))
      ⊢ bigSep Finset.univ (own (F := F)) := by
  unfold own
  rw [bigSep_map, bigSep_map, toks_eq, bigSep_sep', bigSep_sep', bigSep_sep', ← opens_dma]
  exact .rfl

/-- The launch makes every device's first state. -/
theorem init :
    iprop((bigSep Finset.univ fun c : Dev nD => iprop(unscopedBufs c (fun b => m ((c.tc : Thread nD τ).loc b)) ∗ unscopedSems0 c
          ∗ owes (c : Thread nD τ) (O₀ c) ∅ ∗ launchCred O₀ c ∗ prngReg c (ρ c) ∗ G c)) ∗ levAts L lv)
      ⊢ (|={Set.univ}=> bigSep Finset.univ (T₀ m) : sProp 𝕄) := by
  iintro ⟨H, -⟩
  ihave H' := (sort_all m ρ) $$ H
  icases H' with ⟨HB, Hv, Hu⟩
  imod (Rounds.fund_launch ER (rd (xOf m) (wOf m)) cells_disjoint (fun g _ h => h) allToks) $$ [Hv Hu] with ⟨%κ, -, #Hinv, #Hr, Hat, Hopen, Htok⟩
  · isplitl [Hv] <;> iassumption
  imodintro
  iapply (bigSep_with_persistent (R := known m κ) (Φ := fun c => iprop(own c ∗ rest m c)) fun c _ => T₀_intro m κ c)
  isplitr
  · unfold known
    isplitr; · iexact Hinv
    iexact Hr
  iapply (Entails.of_eq (bigSep_sep' (Finset.univ : Finset (Dev nD)) (own (F := F)) (rest m)).symm)
  isplitr [HB]
  · iapply (own_all (F := F))
    isplitl [Hat]; · iexact Hat
    isplitl [Hopen] <;> iassumption
  · iexact HB

/-- The pipeline library's part. -/
abbrev EP : Emb (UR sig nD τ) 𝕄 := embL
def u₀ : UU := (initOf (cells cfgs Gen.cellOf_inj) (launchToks cfgs Gen.cellOf_inj), u₁)

theorem Vend_arg0 (c : Dev nD) : Vend m c (Proc.devRef .tc main_arg0) = m ((c : Thread nD τ).loc main_arg0) :=
  (Vend_of m c main_arg0 (by decide)).trans (A0 m c)
theorem Vend_arg1 (c : Dev nD) : Vend m c (Proc.devRef .tc main_arg1) = m ((c : Thread nD τ).loc main_arg1) :=
  (Vend_of m c main_arg1 (by decide)).trans (A1 m c)

/-- What a device's buffers hold in the end. -/
def Done (c : Dev nD) (mem : (b : Loc nD τ sig) → Buf (Elt F) b) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_v24) = res m

abbrev items (c : Dev nD) : List (Seg (pcfgs (F := F)) Gen.adm (pdats m) () defs₀ Variants.none L lv) :=
  Gen.segs m Variants.none L lv (fun _ => ride m) () (pdats m) (call m) c

set_option backward.isDefEq.respectTransparency.types false in
/-- Every run of the program ends, with the arguments as launched, the result on every device and every semaphore at zero. -/
theorem run_main : θ_run defs (onTc (τ := τ) (main (F := F))) ⟨m, fun _ => 0, ρ⟩
    (fun r => (∀ c : Dev nD, Done m c r.2.mem) ∧ r.2.sem = fun _ => 0) :=
  Pipeline.θ_run_regions_kit_dev_sems (pcfgs (F := F)) Gen.adm (pdats m) () Gen.cellOf_inj EP defs₀ Variants.none L lv m ρ main
    (items m)
    (fun c Q => by
      rewrite [Gen.main_chain c, Seg.run_eq_chain,
        show (items m c).map Seg.prog = [StableHlo.seq (Gen.hostOps0 c), Prog.lift (.customCall (Pipeline.entry 0) ())] from rfl]
      exact .rfl)
    (fun c => by simp only [Gen.segs, Seg.pipes_host, Seg.pipes_region, Seg.pipes_nil]; decide)
    (O₀ := O₀) (hL := fun g h => if_neg h) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := fun c => ⟨.rfl, call_pre m c, call_post m c⟩)
    (hinit := init m ρ)
    (QY := fun c s => Done m c s.mem ∧ s.sem (barCell c) = 0)
    (hfin := fun c s' => by
      dsimp only [Tₙ]
      unfold StableHlo.held
      iintro ⟨⟨Hh, Hb⟩, HSI⟩
      icombine HSI Hb gives %hb
      ihave Hr := (pointsTo_read_all (ucRefs τ sig) (fun b => ((c : Thread nD τ).1, b)) (Vend m c) s') $$ [Hh HSI]
      · isplitl [Hh] <;> iassumption
      icases Hr with ⟨%h, HSI⟩
      imodintro
      isplitr
      · ipureintro
        exact ⟨⟨(h (Proc.devRef .tc main_arg0) (Finset.mem_filter.mpr ⟨StableHlo.devRef_mem_tcRefs main_arg0, by decide⟩)).trans (Vend_arg0 m c),
          (h (Proc.devRef .tc main_arg1) (Finset.mem_filter.mpr ⟨StableHlo.devRef_mem_tcRefs main_arg1, by decide⟩)).trans (Vend_arg1 m c),
          (h (Proc.devRef .tc main_v24) (Finset.mem_filter.mpr ⟨StableHlo.devRef_mem_tcRefs main_v24, by decide⟩)).trans (Vend_res m c)⟩,
          by simpa using hb⟩
      iexact HSI)
    (hQ := fun s h hs => ⟨fun c => (h c).1,
      sem_eq_zero hs fun c sm hsm => by
        obtain rfl := unscoped_eq sm hsm
        exact (h c).2⟩)

end Cert.Ring
-- ==== Proof.Value.lean ====
/- What the sums say at the ideal values: every finished chunk is the larger of zero and the sum, over all
   sixteen devices, of the products of their parts; and sixteen sums of 128 products are one of 2048. -/
module

public import proofs.«01_k».proof.Proof.Region
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.Layout

@[expose] public section

noncomputable section

namespace Cert.Ring

open Cert.KernelIdeal
open Idealize.ShloMosaic Idealize.ShloMosaic.TcCoe Idealize.ShloMosaic.ValueIdx
open Cert.KernelIdeal.Facts₀ Cert.KernelIdeal.Facts

/-! ## Around the ring -/

/-- Sixteen steps back along ring `r` from any device meet every device once. -/
def around (r : Fin 4) (c : Dev nD) : Fin 16 ≃ Dev nD := (Equiv.subLeft (rp r c)).trans (rpEquiv r).symm

theorem around_apply (r : Fin 4) (c : Dev nD) (i : Fin 16) : around r c i = dv r (rp r c - i) := rfl

/-- One step back from a device, then `i`, is `i + 1` steps back. -/
theorem back_src (r : Fin 4) (c : Dev nD) (i : ℕ) :
    dv r (rp r (src r c) - Fin.ofNat 16 i) = dv r (rp r c - Fin.ofNat 16 (i + 1)) := by
  rw [rp_src]
  refine congrArg (dv r) ?_
  generalize rp r c = p
  have hp := p.isLt
  apply Fin.ext
  simp only [Fin.sub_def, Fin.val_ofNat]
  show (16 - Fin.val (Fin.ofNat 16 i) + (16 - 1 + p.val) % 16) % 16 = (16 - Fin.val (Fin.ofNat 16 (i + 1)) + p.val) % 16
  simp only [Fin.val_ofNat]
  omega

/-- The chunk summed after `j` hops was the sender's after `j` hops less one. -/
theorem inC_step (r : Fin 4) (c : Dev nD) (j : ℕ) :
    inC r (src r c) (Fin.ofNat 16 j) = inC r c (Fin.ofNat 16 (j + 1)) := by
  unfold inC
  rw [rp_src]
  generalize rp r c = p
  have hp := p.isLt
  apply Fin.ext
  simp only [Fin.sub_def, Fin.val_ofNat]
  show (16 - Fin.val (Fin.ofNat 16 j) + (16 - 1 + p.val) % 16) % 16 = (16 - Fin.val (Fin.ofNat 16 (j + 1)) + p.val) % 16
  simp only [Fin.val_ofNat]
  omega

/-! ## The sums -/

section Sums

variable (x : (c : Dev nD) → Vec Ideal S2048x128 .f32) (w : (c : Dev nD) → Vec Ideal S128x2048 .f32)

/-- After `j` hops a ring holds, at device `c`, the products of the last `j + 1` devices up to `c`, of one chunk. -/
theorem acc_sum (r : Fin 4) (p : S32x2048.Idx) : ∀ (j : ℕ) (c : Dev nD),
    (acc x w r j c p : EReal)
      = ∑ i ∈ Finset.range (j + 1), prodC x w (dv r (rp r c - Fin.ofNat 16 i)) r (inC r c (Fin.ofNat 16 j)) p
  | 0, c => by
    rw [Finset.sum_range_one]
    show prodC x w c r (inC r c 0) p = prodC x w (dv r (rp r c - 0)) r (inC r c 0) p
    rw [sub_zero, dv_rp]
  | j + 1, c => by
    rw [Finset.sum_range_succ']
    show (acc x w r j (src r c) p : EReal) + prodC x w c r (inC r c (Fin.ofNat 16 (j + 1))) p = _
    rw [acc_sum r p j (src r c), inC_step]
    refine congrArg₂ (· + ·) (Finset.sum_congr rfl fun i _ => by rw [back_src]) ?_
    show _ = prodC x w (dv r (rp r c - 0)) r (inC r c (Fin.ofNat 16 (j + 1))) p
    rw [sub_zero, dv_rp]

/-- After all the hops: the products of all the devices, of the chunk the device finishes. -/
theorem acc_all (r : Fin 4) (c : Dev nD) (p : S32x2048.Idx) :
    (acc x w r 15 c p : EReal) = ∑ d : Dev nD, prodC x w d r (inC r c 15) p := by
  rw [acc_sum, Finset.sum_range]
  refine Eq.trans ?_ (Equiv.sum_comp (around r c) fun d => prodC x w d r (inC r c 15) p)
  refine Finset.sum_congr rfl fun i _ => ?_
  rw [around_apply, show Fin.ofNat 16 i.val = i from Fin.ext (Nat.mod_eq_of_lt i.isLt)]
  rfl

/-- The device that finishes chunk `k` sums chunk `k` last. -/
theorem inC_dv (r : Fin 4) (k : Fin 16) : inC r (dv r (k - 1)) 15 = k := by
  unfold inC
  rw [rp_dv]
  revert k; decide

/-- The value of a finished chunk. -/
theorem fin_apply (r : Fin 4) (k : Fin 16) (p : S32x2048.Idx) :
    (fin x w r k p : EReal) = max (∑ d : Dev nD, prodC x w d r k p) (Ideal.ofBits .f32 0x00000000#32) := by
  show max (acc x w r 15 (dv r (k - 1)) p : EReal) _ = _
  rw [acc_all, inC_dv]
  rfl

end Sums

/-! ## The products -/

theorem dotC_eq : dot_S32x128_S128x2048_S32x2048_1_0_0_1_n_n = DotDims.plain 32 128 2048 := rfl

/-- A row of a chunk's rows of `x`. -/
theorem xR_read (v : Vec Ideal S2048x128 .f32) (r : Fin 4) (k : Fin 16) (a : Fin 32) (q : Fin 128) (R : Fin 2048)
    (hR : R.val = row r k + a.val) :
    (xM.access (xR r k)).read (Elt Ideal) v (ValueIdx.ix2 a q) = v (ValueIdx.ix2 R q) := by
  show v _ = v _
  refine congrArg v (funext fun i => Fin.ext ?_)
  match i with
  | ⟨0, _⟩ => show row r k + 1 * a.val = R.val; omega
  | ⟨1, _⟩ => show 0 + 1 * q.val = q.val; omega

/-- Reading the whole of `w`. -/
theorem wR_read (v : Vec Ideal S128x2048 .f32) (q : Fin 128) (b : Fin 2048) :
    (wM.access wR).read (Elt Ideal) v (ValueIdx.ix2 q b) = v (ValueIdx.ix2 q b) := by
  show v _ = v _
  refine congrArg v (funext fun i => Fin.ext ?_)
  match i with
  | ⟨0, _⟩ => show 0 + 1 * q.val = q.val; omega
  | ⟨1, _⟩ => show 0 + 1 * b.val = b.val; omega

/-- An entry of a device's product of a chunk: the sum over the device's 128 columns. -/
theorem prodC_apply (x : (c : Dev nD) → Vec Ideal S2048x128 .f32) (w : (c : Dev nD) → Vec Ideal S128x2048 .f32)
    (d : Dev nD) (r : Fin 4) (k : Fin 16) (a : Fin 32) (b R : Fin 2048) (hR : R.val = row r k + a.val) :
    (prodC x w d r k (ValueIdx.ix2 a b) : EReal) = ∑ q : Fin 128, x d (ValueIdx.ix2 R q) * w d (ValueIdx.ix2 q b) := by
  unfold prodC mmVal
  rw [shapeCast_self, shapeCast_self, dotC_eq]
  refine (Ideal.matmul_plain_apply _ _ _ _ a b).trans ?_
  rw [show (constant (F := Ideal) S32x2048 .f32 0x00000000#32 (ValueIdx.ix2 a b) : EReal) = 0 from Ideal.ofBits_zero_f32, zero_add]
  refine Finset.sum_congr rfl fun q _ => ?_
  rw [xR_read (x d) r k a q R hR, wR_read]

/-! ## The reference -/

/-- Column `q` of the part that device `d` holds, as a column of the whole. -/
def col (d : Fin 16) (q : Fin 128) : Fin 2048 := ⟨q.val + 128 * d.val, by have := d.isLt; have := q.isLt; omega⟩

/-- A sum over 2048 columns, device by device. -/
theorem sum_cols (f : Fin 2048 → EReal) : ∑ s : Fin 2048, f s = ∑ d : Fin 16, ∑ q : Fin 128, f (col d q) := by
  rw [← Fintype.sum_prod_type', ← Equiv.sum_comp (finProdFinEquiv (m := 16) (n := 128))]
  rfl

theorem dotR_eq : Cert.ReferenceIdeal.dot_S2048x2048_S2048x2048_S2048x2048_1_0_0_1_n_n = DotDims.plain 2048 2048 2048 := rfl

/-- What the reference computes of the whole arrays. -/
abbrev refVal (X W : FVec Ideal S2048x2048 .f32) : FVec Ideal S2048x2048 .f32 :=
  maximumf (Host.dotGeneral Cert.ReferenceIdeal.dot_S2048x2048_S2048x2048_S2048x2048_1_0_0_1_n_n none X W)
    (broadcastInDim S2048x2048 ![] Cert.ReferenceIdeal.Facts₀.bcast_S_S2048x2048 (constant Cert.ReferenceIdeal.S_ .f32 0x00000000#32))

theorem refVal_apply (X W : FVec Ideal S2048x2048 .f32) (a b : Fin 2048) :
    (refVal X W (ValueIdx.ix2 a b) : EReal)
      = max (∑ d : Fin 16, ∑ q : Fin 128, X (ValueIdx.ix2 a (col d q)) * W (ValueIdx.ix2 (col d q) b)) (Ideal.ofBits .f32 0x00000000#32) := by
  show max (Host.dotGeneral Cert.ReferenceIdeal.dot_S2048x2048_S2048x2048_S2048x2048_1_0_0_1_n_n none X W (ValueIdx.ix2 a b) : EReal) _ = _
  rw [dotR_eq, StackMember.dotGeneral_plain_apply, sum_cols fun s => X (ValueIdx.ix2 a s) * W (ValueIdx.ix2 s b)]
  rfl

/-! ## The result -/

/-- From each device's part of the whole arrays, the result is what the reference computes of the whole. -/
theorem res_eq (m : (ℓ : Loc nD τ sig) → Buf (Elt Ideal) ℓ) (X W : FVec Ideal S2048x2048 .f32)
    (hx : ∀ c : Dev nD, xOf m c = Layout.block ⟨2, ![2048, 128]⟩ ⟨2, ![2048, 2048]⟩ 1 16 c X)
    (hw : ∀ c : Dev nD, wOf m c = Layout.block ⟨2, ![128, 2048]⟩ ⟨2, ![2048, 2048]⟩ 0 16 c W) :
    res m = refVal X W := by
  refine funext fun i => ?_
  obtain ⟨a, b, rfl⟩ : ∃ a b : Fin 2048, i = ValueIdx.ix2 a b := ⟨i 0, i 1, ValueIdx.eq_ix2 i⟩
  refine Eq.trans ?_ (refVal_apply X W a b).symm
  show (fin (xOf m) (wOf m) (ringOf (ValueIdx.ix2 a b)) (chunkOf (ValueIdx.ix2 a b)) (ValueIdx.ix2 ⟨a.val % 32, Nat.mod_lt _ (by decide)⟩ b) : EReal) = _
  rw [fin_apply]
  refine congrArg (max · _) (Finset.sum_congr rfl fun d _ => ?_)
  rw [prodC_apply (xOf m) (wOf m) d _ _ _ b a (by show a.val = 512 * (a.val / 512) + 32 * (a.val % 512 / 32) + a.val % 32; omega)]
  refine Finset.sum_congr rfl fun q _ => ?_
  rw [hx, hw]
  refine congrArg₂ (fun s t : EReal => s * t) (congrArg X (funext fun k => Fin.ext ?_)) (congrArg W (funext fun k => Fin.ext ?_))
  · match k with
    | ⟨0, _⟩ => rfl
    | ⟨1, _⟩ => show d.val * 128 + q.val = q.val + 128 * d.val; omega
  · match k with
    | ⟨0, _⟩ => show d.val * 128 + q.val = q.val + 128 * d.val; omega
    | ⟨1, _⟩ => rfl

end Cert.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

open Cert.KernelIdeal in
/-- At any float values, every run ends with the arguments as they were and every semaphore at zero. -/
theorem frame_any (F : FTy → Type) [FloatOps F] (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun _ h => ⟨fun c => ⟨(h.1 c).1, (h.1 c).2.1⟩, h.2⟩) (Cert.Ring.run_main m ρ)

/-- The frame of the program read at the ideal values. -/
theorem frame_ideal : Cert.quiescent_KernelIdeal := fun m ρ _ => frame_any Ideal m ρ

open Cert.KernelIdeal in
/-- The two programs are one text, so the frame of the one at the bit patterns of floats is that of the other. -/
theorem frame_kernel_eq : Cert.quiescent_Kernel = ∀ (m : (ℓ : Loc nD τ sig) → Buf (Elt Bits) ℓ) (ρ : Dev nD → PrngReg), Pre_Kernel m →
    θ_run defs (onTc (τ := τ) (main (F := Bits))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) := by
  sl_kernel_rfl

/-- The frame of the program at the bit patterns of floats. -/
theorem frame_kernel : Cert.quiescent_Kernel := by
  rw [frame_kernel_eq]
  exact fun m ρ _ => frame_any Bits m ρ

/-- The frame of the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From each device's part of the whole arrays, every device ends with all of the reference's result. -/
theorem algebraic : Cert.algebraic_KernelIdeal_ReferenceIdeal := by
  intro m ρ m' ρ' _ h
  refine ⟨_, (θ_run Cert.KernelIdeal.defs _ _).mono (fun r hr c => ⟨(hr.1 c).2.2.trans ?_, (hr.1 c).1, (hr.1 c).2.1⟩)
      (Cert.Ring.run_main (F := Ideal) m ρ),
    (θ_run Cert.ReferenceIdeal.defs _ _).mono (fun r hr => hr 0) (Cert.ReferenceIdeal.Value.run (F := Ideal) m' ρ')⟩
  exact Cert.Ring.res_eq m _ _ (fun c => (h c).1) (fun c => (h c).2)

theorem claim : Cert.Claim := ⟨Cert.Kernel.Gen.facts, Cert.KernelIdeal.Gen.facts, Cert.ReferenceIdeal.Gen.facts,
  frame_kernel, frame_ideal, frame_reference, trivial, algebraic⟩

end Cert.Proof

end
